-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x2048 : Shape := ⟨3, ![4, 1024, 2048]⟩
abbrev S8192x2048 : Shape := ⟨2, ![8192, 2048]⟩
abbrev S_ : Shape := ⟨0, ![]⟩

class Facts : Prop where
  bitsLt_bf16_f32 : FTy.bits .bf16 < FTy.bits .f32
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x1024x2048 .bf16) (main_arg1 : FVec F S8192x2048 .bf16) : IVec S_ 1 :=
  let main_v0 : FVec F S4x1024x2048 .f32 := (extf .f32 · bitsLt_bf16_f32) main_arg0
  let main_v1 : FVec F S4x1024x2048 .f32 := Host.absf main_v0
  let main_cst : FVec F S_ .f32 := constant S_ .f32 0x7F800000#32
  let main_v2 : FVec F S4x1024x2048 .f32 := broadcastInDim S4x1024x2048 ![] bcast_S_S4x1024x2048 main_cst
  let main_v3 : IVec S4x1024x2048 1 := cmpf .olt main_v1 main_v2
  let main_c : IVec S_ 1 := constantI S_ 1 1#1
  let main_v4 : IVec S_ 1 := (fun x v => Host.reduce IntOp.andi x v reducesTo_S4x1024x2048_S_d0_1_2 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  main_v10
-- ==== Kernel.lean ====
abbrev S4x1024x2048 : Shape := ⟨3, ![4, 1024, 2048]⟩
abbrev S8192x2048 : Shape := ⟨2, ![8192, 2048]⟩
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S2048x128 : Shape := ⟨2, ![2048, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S_ : Shape := ⟨0, ![]⟩
abbrev S2048 : Shape := ⟨1, ![2048]⟩
abbrev S20 : Shape := ⟨1, ![20]⟩
abbrev S20x2048 : Shape := ⟨2, ![20, 2048]⟩
abbrev S1 : Shape := ⟨1, ![1]⟩
abbrev S1x2048 : Shape := ⟨2, ![1, 2048]⟩
abbrev S20x2048x1 : Shape := ⟨3, ![20, 2048, 1]⟩
abbrev S20x2048x128 : Shape := ⟨3, ![20, 2048, 128]⟩
abbrev S16x128x4x2048 : Shape := ⟨4, ![16, 128, 4, 2048]⟩
abbrev S16x2048x4x128 : Shape := ⟨4, ![16, 2048, 4, 128]⟩
abbrev S16x2048x512 : Shape := ⟨3, ![16, 2048, 512]⟩
abbrev S321x1x512 : Shape := ⟨3, ![321, 1, 512]⟩
abbrev S20x8192x1024 : Shape := ⟨3, ![20, 8192, 1024]⟩
abbrev S20x16x16x512 : Shape := ⟨4, ![20, 16, 16, 512]⟩
abbrev S1x2048x512 : Shape := ⟨3, ![1, 2048, 512]⟩
abbrev S2x2048x128 : Shape := ⟨3, ![2, 2048, 128]⟩
abbrev S2x512x1024 : Shape := ⟨3, ![2, 512, 1024]⟩
abbrev S2x1x16x512 : Shape := ⟨4, ![2, 1, 16, 512]⟩
abbrev S2048x512 : Shape := ⟨2, ![2048, 512]⟩
abbrev S8x512 : Shape := ⟨2, ![8, 512]⟩
abbrev S512x2048 : Shape := ⟨2, ![512, 2048]⟩
abbrev S512x512 : Shape := ⟨2, ![512, 512]⟩
abbrev S512x128 : Shape := ⟨2, ![512, 128]⟩
abbrev S64x8x512 : Shape := ⟨3, ![64, 8, 512]⟩
abbrev S512 : Shape := ⟨1, ![512]⟩
abbrev S1x512 : Shape := ⟨2, ![1, 512]⟩
abbrev S1x1x512 : Shape := ⟨3, ![1, 1, 512]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x1x1x128 : Shape := ⟨4, ![1, 1, 1, 128]⟩
abbrev S64x128 : Shape := ⟨2, ![64, 128]⟩
abbrev S1x512x128 : Shape := ⟨3, ![1, 512, 128]⟩
abbrev S320x1x512 : Shape := ⟨3, ![320, 1, 512]⟩
abbrev S320x512 : Shape := ⟨2, ![320, 512]⟩
abbrev S16x20x4x128 : Shape := ⟨4, ![16, 20, 4, 128]⟩
abbrev S20x16x128x4 : Shape := ⟨4, ![20, 16, 128, 4]⟩
abbrev S20x8192 : Shape := ⟨2, ![20, 8192]⟩
abbrev S20x16x16x4x128 : Shape := ⟨5, ![20, 16, 16, 4, 128]⟩
abbrev S20x16x128x4x16 : Shape := ⟨5, ![20, 16, 128, 4, 16]⟩
abbrev S20x8192x16 : Shape := ⟨3, ![20, 8192, 16]⟩

abbrev nBuf : Space → Nat
  | .hbm => 68
  | .vmem => 28
  | .smem => 0
  | _ => 0

abbrev bufTy : (tb : Table) → Fin (tcTables nBuf tb) → BufTy
  | .hbm, ⟨0, _⟩ => ⟨S4x1024x2048, .bf16⟩
  | .hbm, ⟨1, _⟩ => ⟨S8192x2048, .bf16⟩
  | .hbm, ⟨2, _⟩ => ⟨S4096x2048, .bf16⟩
  | .hbm, ⟨3, _⟩ => ⟨S2048x2048, .f32⟩
  | .hbm, ⟨4, _⟩ => ⟨S2048x2048, .bf16⟩
  | .hbm, ⟨5, _⟩ => ⟨S2048x128, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S20, .i32⟩
  | .hbm, ⟨14, _⟩ => ⟨S_, .f32⟩
  | .hbm, ⟨15, _⟩ => ⟨S20x2048, .f32⟩
  | .hbm, ⟨16, _⟩ => ⟨S_, .i32⟩
  | .hbm, ⟨17, _⟩ => ⟨S20, .i32⟩
  | .hbm, ⟨18, _⟩ => ⟨S2048, .f32⟩
  | .hbm, ⟨19, _⟩ => ⟨S_, .i32⟩
  | .hbm, ⟨20, _⟩ => ⟨S20x2048, .f32⟩
  | .hbm, ⟨21, _⟩ => ⟨S_, .i32⟩
  | .hbm, ⟨22, _⟩ => ⟨S_, .i1⟩
  | .hbm, ⟨23, _⟩ => ⟨S1, .i32⟩
  | .hbm, ⟨24, _⟩ => ⟨S_, .i32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S1x2048, .f32⟩
  | .hbm, ⟨42, _⟩ => ⟨S_, .i32⟩
  | .hbm, ⟨43, _⟩ => ⟨S20x2048, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S20x2048, .f32⟩
  | .hbm, ⟨48, _⟩ => ⟨S20x2048, .f32⟩
  | .hbm, ⟨49, _⟩ => ⟨S20x2048, .bf16⟩
  | .hbm, ⟨50, _⟩ => ⟨S20x2048x1, .f32⟩
  | .hbm, ⟨51, _⟩ => ⟨S20x2048x128, .f32⟩
  | .hbm, ⟨52, _⟩ => ⟨S20x2048x1, .bf16⟩
  | .hbm, ⟨53, _⟩ => ⟨S20x2048x128, .bf16⟩
  | .hbm, ⟨54, _⟩ => ⟨S16x128x4x2048, .bf16⟩
  | .hbm, ⟨55, _⟩ => ⟨S16x2048x4x128, .bf16⟩
  | .hbm, ⟨56, _⟩ => ⟨S16x2048x512, .bf16⟩
  | .hbm, ⟨57, _⟩ => ⟨S321x1x512, .f32⟩
  | .hbm, ⟨58, _⟩ => ⟨S20x8192x1024, .i8⟩
  | .hbm, ⟨59, _⟩ => ⟨S20x16x16x512, .f32⟩
  | .hbm, ⟨60, _⟩ => ⟨S320x1x512, .f32⟩
  | .hbm, ⟨61, _⟩ => ⟨S320x512, .f32⟩
  | .hbm, ⟨62, _⟩ => ⟨S16x20x4x128, .f32⟩
  | .hbm, ⟨63, _⟩ => ⟨S20x16x128x4, .f32⟩
  | .hbm, ⟨64, _⟩ => ⟨S20x8192, .f32⟩
  | .hbm, ⟨65, _⟩ => ⟨S20x16x16x4x128, .f32⟩
  | .hbm, ⟨66, _⟩ => ⟨S20x16x128x4x16, .f32⟩
  | .hbm, ⟨67, _⟩ => ⟨S20x8192x16, .f32⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .bf16⟩
  | .local _ .vmem, ⟨10, _⟩ => ⟨S256x256, .bf16⟩
  | .local _ .vmem, ⟨11, _⟩ => ⟨S256x128, .f32⟩
  | .local _ .vmem, ⟨12, _⟩ => ⟨S256x128, .f32⟩
  | .local _ .vmem, ⟨13, _⟩ => ⟨S2048x2048, .bf16⟩
  | .local _ .vmem, ⟨14, _⟩ => ⟨S2048x128, .f32⟩
  | .local _ .vmem, ⟨15, _⟩ => ⟨S1x2048x512, .bf16⟩
  | .local _ .vmem, ⟨16, _⟩ => ⟨S1x2048x512, .bf16⟩
  | .local _ .vmem, ⟨17, _⟩ => ⟨S2x2048x128, .f32⟩
  | .local _ .vmem, ⟨18, _⟩ => ⟨S2x2048x128, .f32⟩
  | .local _ .vmem, ⟨19, _⟩ => ⟨S2x2048x128, .bf16⟩
  | .local _ .vmem, ⟨20, _⟩ => ⟨S2x2048x128, .bf16⟩
  | .local _ .vmem, ⟨21, _⟩ => ⟨S321x1x512, .f32⟩
  | .local _ .vmem, ⟨22, _⟩ => ⟨S2x512x1024, .i8⟩
  | .local _ .vmem, ⟨23, _⟩ => ⟨S2x512x1024, .i8⟩
  | .local _ .vmem, ⟨24, _⟩ => ⟨S2x1x16x512, .f32⟩
  | .local _ .vmem, ⟨25, _⟩ => ⟨S2x1x16x512, .f32⟩
  | .local _ .vmem, ⟨26, _⟩ => ⟨S2048x512, .bf16⟩
  | .local _ .vmem, ⟨27, _⟩ => ⟨S2048x512, .bf16⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_c : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_while0c_c_6 : Ref sig .tc := ⟨.hbm, 21, rfl⟩
abbrev main_while0c_v30 : Ref sig .tc := ⟨.hbm, 22, rfl⟩
abbrev main_while0b_call0_v0 : Ref sig .tc := ⟨.hbm, 23, rfl⟩
abbrev main_while0b_v30 : Ref sig .tc := ⟨.hbm, 24, rfl⟩
abbrev main_while0b_v31 : Ref sig .tc := ⟨.hbm, 25, rfl⟩
abbrev main_while0b_cst_6 : Ref sig .tc := ⟨.hbm, 26, rfl⟩
abbrev main_while0b_v32 : Ref sig .tc := ⟨.hbm, 27, rfl⟩
abbrev main_while0b_v33 : Ref sig .tc := ⟨.hbm, 28, rfl⟩
abbrev main_while0b_v34 : Ref sig .tc := ⟨.hbm, 29, rfl⟩
abbrev main_while0b_cst_7 : Ref sig .tc := ⟨.hbm, 30, rfl⟩
abbrev main_while0b_v35 : Ref sig .tc := ⟨.hbm, 31, rfl⟩
abbrev main_while0b_v36 : Ref sig .tc := ⟨.hbm, 32, rfl⟩
abbrev main_while0b_cst_8 : Ref sig .tc := ⟨.hbm, 33, rfl⟩
abbrev main_while0b_v37 : Ref sig .tc := ⟨.hbm, 34, rfl⟩
abbrev main_while0b_cst_9 : Ref sig .tc := ⟨.hbm, 35, rfl⟩
abbrev main_while0b_v38 : Ref sig .tc := ⟨.hbm, 36, rfl⟩
abbrev main_while0b_v39 : Ref sig .tc := ⟨.hbm, 37, rfl⟩
abbrev main_while0b_v40 : Ref sig .tc := ⟨.hbm, 38, rfl⟩
abbrev main_while0b_v41 : Ref sig .tc := ⟨.hbm, 39, rfl⟩
abbrev main_while0b_v42 : Ref sig .tc := ⟨.hbm, 40, rfl⟩
abbrev main_while0b_call1_v0 : Ref sig .tc := ⟨.hbm, 41, rfl⟩
abbrev main_while0b_call1_c : Ref sig .tc := ⟨.hbm, 42, rfl⟩
abbrev main_while0b_v43 : Ref sig .tc := ⟨.hbm, 43, rfl⟩
abbrev main_while0b_c_10 : Ref sig .tc := ⟨.hbm, 44, rfl⟩
abbrev main_while0b_v44 : Ref sig .tc := ⟨.hbm, 45, rfl⟩
abbrev main_cst_2 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21_0 : Ref sig .tc := ⟨.hbm, 57, rfl⟩
abbrev main_v21_1 : Ref sig .tc := ⟨.hbm, 58, rfl⟩
abbrev main_v21_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_scratch0 : Ref sig .tc := ⟨.vmem, 26, rfl⟩
abbrev cc2_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev main_while0_count : Scf.Loop 32 := ⟨0#32, 20#32, 1#32⟩

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond1 (i : grid1.Coords) : BitVec 1 :=
  let arg0 : BitVec 32 := BitVec.ofNat 32 (i 0).val
  let arg1 : BitVec 32 := BitVec.ofNat 32 (i 1).val
  let v0 : BitVec 1 := Scalar.cmpi .slt arg0 arg1
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let arg1 : BitVec 32 := BitVec.ofNat 32 (i 1).val
  let v3 : BitVec 1 := Scalar.cmpi .sgt arg0 arg1
  let v4 : BitVec 32 := Scalar.extui v3
  let c0_i32_0 : BitVec 32 := 0#32
  let v5 : BitVec 1 := Scalar.cmpi .ne v4 c0_i32_0
  v5

def k1_cond3 (i : grid1.Coords) : BitVec 1 :=
  let arg0 : BitVec 32 := BitVec.ofNat 32 (i 0).val
  let arg1 : BitVec 32 := BitVec.ofNat 32 (i 1).val
  let v6 : BitVec 1 := Scalar.cmpi .eq arg0 arg1
  let v7 : BitVec 32 := Scalar.extui v6
  let c0_i32_1 : BitVec 32 := 0#32
  let v8 : BitVec 1 := Scalar.cmpi .ne v7 c0_i32_1
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 10], ![false, false]⟩

def k2_off1 (i : grid2.Coords) : Fin 3 → Nat :=
  let arg0 : BitVec 32 := BitVec.ofNat 32 (i 0).val
  let c20_i32 : BitVec 32 := 20#32
  let v6 : BitVec 32 := Scalar.muli arg0 c20_i32
  let c2_i32 : BitVec 32 := 2#32
  let arg1 : BitVec 32 := BitVec.ofNat 32 (i 1).val
  let v7 : BitVec 32 := Scalar.muli c2_i32 arg1
  let v8 : BitVec 32 := Scalar.addi v6 v7
  let v76 : Index := Scalar.indexCast v8
  let c0_40 : Index := 0#32
  let c0_41 : Index := 0#32
  ![v76.toNat, 0, 0]
def k2_off2 (i : grid2.Coords) : Fin 3 → Nat :=
  let arg0 : BitVec 32 := BitVec.ofNat 32 (i 0).val
  let c20_i32 : BitVec 32 := 20#32
  let v6 : BitVec 32 := Scalar.muli arg0 c20_i32
  let c2_i32 : BitVec 32 := 2#32
  let arg1 : BitVec 32 := BitVec.ofNat 32 (i 1).val
  let v7 : BitVec 32 := Scalar.muli c2_i32 arg1
  let v8 : BitVec 32 := Scalar.addi v6 v7
  let c1_i32 : BitVec 32 := 1#32
  let v3153 : BitVec 32 := Scalar.addi v8 c1_i32
  let v3154 : Index := Scalar.indexCast v3153
  let c0_1420 : Index := 0#32
  let c0_1421 : Index := 0#32
  ![v3154.toNat, 0, 0]
def k2_cond2 (i : grid2.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c9_i32 : BitVec 32 := 9#32
  let v4 : BitVec 1 := Scalar.cmpi .eq arg1 c9_i32
  let v5 : BitVec 1 := Scalar.andi v3 v4
  let v6166 : BitVec 32 := Scalar.extui v5
  let c0_i32_2791 : BitVec 32 := 0#32
  let v6167 : BitVec 1 := Scalar.cmpi .ne v6166 c0_i32_2791
  v6167

def k2_off3 (i : grid2.Coords) : Fin 3 → Nat :=
  let arg0 : BitVec 32 := BitVec.ofNat 32 (i 0).val
  let c20_i32 : BitVec 32 := 20#32
  let v6 : BitVec 32 := Scalar.muli arg0 c20_i32
  let c2_i32 : BitVec 32 := 2#32
  let arg1 : BitVec 32 := BitVec.ofNat 32 (i 1).val
  let v7 : BitVec 32 := Scalar.muli c2_i32 arg1
  let v8 : BitVec 32 := Scalar.addi v6 v7
  let c2_i32_2834 : BitVec 32 := 2#32
  let v6233 : BitVec 32 := Scalar.addi v8 c2_i32_2834
  let v6234 : Index := Scalar.indexCast v6233
  let c0_2835 : Index := 0#32
  let c0_2836 : Index := 0#32
  ![v6234.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2x2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2x2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S321x1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2x512x1024 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S2x1x16x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S4x1024x2048 : Shape := ⟨3, ![4, 1024, 2048]⟩
abbrev S8192x2048 : Shape := ⟨2, ![8192, 2048]⟩
abbrev S4096x2048 : Shape := ⟨2, ![4096, 2048]⟩
abbrev S4096x8192 : Shape := ⟨2, ![4096, 8192]⟩
abbrev S_ : Shape := ⟨0, ![]⟩
abbrev S2048 : Shape := ⟨1, ![2048]⟩
abbrev S20 : Shape := ⟨1, ![20]⟩
abbrev S1x2048 : Shape := ⟨2, ![1, 2048]⟩
abbrev S20x1 : Shape := ⟨2, ![20, 1]⟩
abbrev S20x2048 : Shape := ⟨2, ![20, 2048]⟩
abbrev S1x8192x2048 : Shape := ⟨3, ![1, 8192, 2048]⟩
abbrev S20x1x2048 : Shape := ⟨3, ![20, 1, 2048]⟩
abbrev S20x8192x2048 : Shape := ⟨3, ![20, 8192, 2048]⟩
abbrev S20x8192x16x128 : Shape := ⟨4, ![20, 8192, 16, 128]⟩
abbrev S20x8192x16 : Shape := ⟨3, ![20, 8192, 16]⟩
abbrev S20x8192x16x1 : Shape := ⟨4, ![20, 8192, 16, 1]⟩
abbrev S20x8192x4096 : Shape := ⟨3, ![20, 8192, 4096]⟩
abbrev S20x4096x8192 : Shape := ⟨3, ![20, 4096, 8192]⟩
abbrev S1x4096x8192 : Shape := ⟨3, ![1, 4096, 8192]⟩
abbrev S20x8192 : Shape := ⟨2, ![20, 8192]⟩
abbrev S20x8192x1024x2 : Shape := ⟨4, ![20, 8192, 1024, 2]⟩
abbrev S20x8192x1024x1 : Shape := ⟨4, ![20, 8192, 1024, 1]⟩
abbrev S20x8192x1024 : Shape := ⟨3, ![20, 8192, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S8192x2048, .f32⟩
  | .hbm, ⟨12, _⟩ => ⟨S20, .i32⟩
  | .hbm, ⟨13, _⟩ => ⟨S20, .f32⟩
  | .hbm, ⟨14, _⟩ => ⟨S_, .f32⟩
  | .hbm, ⟨15, _⟩ => ⟨S20, .f32⟩
  | .hbm, ⟨16, _⟩ => ⟨S20, .f32⟩
  | .hbm, ⟨17, _⟩ => ⟨S1x2048, .f32⟩
  | .hbm, ⟨18, _⟩ => ⟨S20x1, .f32⟩
  | .hbm, ⟨19, _⟩ => ⟨S20x2048, .f32⟩
  | .hbm, ⟨20, _⟩ => ⟨S20x2048, .f32⟩
  | .hbm, ⟨21, _⟩ => ⟨S20x2048, .f32⟩
  | .hbm, ⟨22, _⟩ => ⟨S_, .f32⟩
  | .hbm, ⟨23, _⟩ => ⟨S20x2048, .f32⟩
  | .hbm, ⟨24, _⟩ => ⟨S20x2048, .f32⟩
  | .hbm, ⟨25, _⟩ => ⟨S_, .f32⟩
  | .hbm, ⟨26, _⟩ => ⟨S20, .f32⟩
  | .hbm, ⟨27, _⟩ => ⟨S20x1, .f32⟩
  | .hbm, ⟨28, _⟩ => ⟨S_, .f32⟩
  | .hbm, ⟨29, _⟩ => ⟨S20, .f32⟩
  | .hbm, ⟨30, _⟩ => ⟨S20x1, .f32⟩
  | .hbm, ⟨31, _⟩ => ⟨S20x1, .f32⟩
  | .hbm, ⟨32, _⟩ => ⟨S20x1, .f32⟩
  | .hbm, ⟨33, _⟩ => ⟨S20x2048, .f32⟩
  | .hbm, ⟨34, _⟩ => ⟨S20x2048, .f32⟩
  | .hbm, ⟨35, _⟩ => ⟨S1x8192x2048, .f32⟩
  | .hbm, ⟨36, _⟩ => ⟨S20x1x2048, .f32⟩
  | .hbm, ⟨37, _⟩ => ⟨S20x8192x2048, .f32⟩
  | .hbm, ⟨38, _⟩ => ⟨S20x8192x2048, .f32⟩
  | .hbm, ⟨39, _⟩ => ⟨S20x8192x2048, .f32⟩
  | .hbm, ⟨40, _⟩ => ⟨S20x8192x16x128, .f32⟩
  | .hbm, ⟨41, _⟩ => ⟨S20x8192x16x128, .f32⟩
  | .hbm, ⟨42, _⟩ => ⟨S_, .f32⟩
  | .hbm, ⟨43, _⟩ => ⟨S20x8192x16, .f32⟩
  | .hbm, ⟨44, _⟩ => ⟨S_, .f32⟩
  | .hbm, ⟨45, _⟩ => ⟨S20x8192x16, .f32⟩
  | .hbm, ⟨46, _⟩ => ⟨S20x8192x16, .i1⟩
  | .hbm, ⟨47, _⟩ => ⟨S_, .f32⟩
  | .hbm, ⟨48, _⟩ => ⟨S20x8192x16, .f32⟩
  | .hbm, ⟨49, _⟩ => ⟨S20x8192x16, .f32⟩
  | .hbm, ⟨50, _⟩ => ⟨S_, .f32⟩
  | .hbm, ⟨51, _⟩ => ⟨S20x8192x16, .f32⟩
  | .hbm, ⟨52, _⟩ => ⟨S20x8192x16, .f32⟩
  | .hbm, ⟨53, _⟩ => ⟨S20x8192x16x1, .f32⟩
  | .hbm, ⟨54, _⟩ => ⟨S20x8192x16x128, .f32⟩
  | .hbm, ⟨55, _⟩ => ⟨S20x8192x16x128, .f32⟩
  | .hbm, ⟨56, _⟩ => ⟨S20x8192x16x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S20x8192x16x128, .f32⟩
  | .hbm, ⟨61, _⟩ => ⟨S20x8192x16x128, .f32⟩
  | .hbm, ⟨62, _⟩ => ⟨S_, .f32⟩
  | .hbm, ⟨63, _⟩ => ⟨S20x8192x16x128, .f32⟩
  | .hbm, ⟨64, _⟩ => ⟨S20x8192x16x128, .f32⟩
  | .hbm, ⟨65, _⟩ => ⟨S_, .f32⟩
  | .hbm, ⟨66, _⟩ => ⟨S20x2048, .f32⟩
  | .hbm, ⟨67, _⟩ => ⟨S20x2048, .f32⟩
  | .hbm, ⟨68, _⟩ => ⟨S20x8192x16x128, .bf16⟩
  | .hbm, ⟨69, _⟩ => ⟨S20x8192x16, .bf16⟩
  | .hbm, ⟨70, _⟩ => ⟨S20x8192x16x1, .bf16⟩
  | .hbm, ⟨71, _⟩ => ⟨S20x8192x16x128, .bf16⟩
  | .hbm, ⟨72, _⟩ => ⟨S20x8192x16x128, .bf16⟩
  | .hbm, ⟨73, _⟩ => ⟨S20x8192x2048, .bf16⟩
  | .hbm, ⟨74, _⟩ => ⟨S20x2048, .bf16⟩
  | .hbm, ⟨75, _⟩ => ⟨S20x1x2048, .bf16⟩
  | .hbm, ⟨76, _⟩ => ⟨S20x8192x2048, .bf16⟩
  | .hbm, ⟨77, _⟩ => ⟨S20x8192x2048, .bf16⟩
  | .hbm, ⟨78, _⟩ => ⟨S20x8192x4096, .f32⟩
  | .hbm, ⟨79, _⟩ => ⟨S20x4096x8192, .f32⟩
  | .hbm, ⟨80, _⟩ => ⟨S1x4096x8192, .f32⟩
  | .hbm, ⟨81, _⟩ => ⟨S20x4096x8192, .f32⟩
  | .hbm, ⟨82, _⟩ => ⟨S20x4096x8192, .f32⟩
  | .hbm, ⟨83, _⟩ => ⟨S20x4096x8192, .f32⟩
  | .hbm, ⟨84, _⟩ => ⟨S_, .f32⟩
  | .hbm, ⟨85, _⟩ => ⟨S20x8192, .f32⟩
  | .hbm, ⟨86, _⟩ => ⟨S_, .f32⟩
  | .hbm, ⟨87, _⟩ => ⟨S20x8192, .f32⟩
  | .hbm, ⟨88, _⟩ => ⟨S20x8192, .f32⟩
  | .hbm, ⟨89, _⟩ => ⟨S20x8192x16x128, .i32⟩
  | .hbm, ⟨90, _⟩ => ⟨S20x8192x1024x2, .i32⟩
  | .hbm, ⟨91, _⟩ => ⟨S20x8192x1024x1, .i32⟩
  | .hbm, ⟨92, _⟩ => ⟨S20x8192x1024, .i32⟩
  | .hbm, ⟨93, _⟩ => ⟨S_, .i32⟩
  | .hbm, ⟨94, _⟩ => ⟨S20x8192x1024, .i32⟩
  | .hbm, ⟨95, _⟩ => ⟨S20x8192x1024, .i32⟩
  | .hbm, ⟨96, _⟩ => ⟨S20x8192x1024x1, .i32⟩
  | .hbm, ⟨97, _⟩ => ⟨S20x8192x1024, .i32⟩
  | .hbm, ⟨98, _⟩ => ⟨S_, .i32⟩
  | .hbm, ⟨99, _⟩ => ⟨S20x8192x1024, .i32⟩
  | .hbm, ⟨100, _⟩ => ⟨S20x8192x1024, .i32⟩
  | .hbm, ⟨101, _⟩ => ⟨S_, .i32⟩
  | .hbm, ⟨102, _⟩ => ⟨S20x8192x1024, .i32⟩
  | .hbm, ⟨103, _⟩ => ⟨S20x8192x1024, .i32⟩
  | .hbm, ⟨104, _⟩ => ⟨S20x8192x1024, .i32⟩
  | .hbm, ⟨105, _⟩ => ⟨S20x8192x1024, .i8⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Main.Units.lean ====
module

public import proofs.«01_k».proof.Proof.Gen.KernelIdeal
public import proofs.«01_k».proof.Proof.Gen.KernelIdeal.Skeleton
public import Idealize.ShloMosaic.Lib.Pipeline.ValueKit
public import Idealize.ShloMosaic.Lib.Pipeline.ReadBack
public import Idealize.ShloMosaic.Lib.WholeRead

@[expose] public section

set_option maxRecDepth 16384

/-!
What one grid point of the search call computes, in units: one group of 128 inputs by one block of 128 output lanes
(the scale row, the codes' bits, the quantisation error), one pair of groups (a 512 by 128 block of code bytes) and one
row of losses. The arrays that a grid point leaves are families of these units.
-/

noncomputable section

namespace Cert.KernelIdeal.Main

open Cert.KernelIdeal Cert.KernelIdeal.Gen
open Idealize.ShloMosaic Idealize.ShloMosaic.TcCoe
open Idealize.SL Idealize.SL.RA

variable {F : FTy → Type} [FloatOps F]

/-! ## One group by one lane block -/

/-- The scaled weights of the unit. -/
def vU (s : Vec F S1x128x128 .f32) (w : Vec F S1x128x128 .bf16) : FVec F S128x128 .f32 :=
  mulf (extf .f32 (shapeCast S128x128 w shapeCasts_S1x128x128_S128x128) bitsLt_bf16_f32)
    (shapeCast S128x128 s shapeCasts_S1x128x128_S128x128)

/-- The unit's row of scales: the largest magnitude of a column over seven, and one for a column of zeros. -/
def scU (s : Vec F S1x128x128 .f32) (w : Vec F S1x128x128 .bf16) : FVec F S1x128 .f32 :=
  have amax : FVec F S1x128 .f32 := shapeCast S1x128 (multiReduction .maximumf [0] S128 (absf (vU s w)) 0xFF800000#32
    reduces_S128x128_S128 (.inl rfl) rfl) shapeCasts_S128_S1x128
  select (cmpf .oeq amax (broadcast S1x128 (Scalar.ofBits .f32 0x00000000#32)))
    (broadcast S1x128 (Scalar.ofBits .f32 0x3F800000#32)) (divf amax (broadcast S1x128 (Scalar.ofBits .f32 0x40E00000#32)))

/-- The unit's codes, clipped and rounded, before the conversion to integers. -/
def qU (s : Vec F S1x128x128 .f32) (w : Vec F S1x128x128 .bf16) : FVec F S128x128 .f32 :=
  roundeven (minimumf (broadcast S128x128 (Scalar.ofBits .f32 0x40E00000#32))
    (maximumf (broadcast S128x128 (Scalar.ofBits .f32 0xC0E00000#32))
      (divf (vU s w) (broadcastTo S128x128 (scU s w) broadcasts_S1x128_S128x128))))

/-- The unit's codes as 16-bit words: the bits of the bf16 number 192 + code. -/
def bitsU (s : Vec F S1x128x128 .f32) (w : Vec F S1x128x128 .bf16) : IVec S128x128 16 :=
  trunci 16 (addi (fptosi 32 (qU s w)) (broadcast S128x128 17216#32)) natLt_16_32

/-- The unit's quantisation error. -/
def dU (s : Vec F S1x128x128 .f32) (inv w : Vec F S1x128x128 .bf16) : FVec F S128x128 .bf16 :=
  shapeCast S128x128 (subf (shapeCast S128x128 w shapeCasts_S1x128x128_S128x128)
    (mulf (mulf (subf (bitcastToFloat .bf16 (bitsU s w)) (broadcast S128x128 (Scalar.ofBits .bf16 0x4340#16)))
        (broadcastTo S128x128 (truncf .bf16 (scU s w) bitsLt_bf16_f32) broadcasts_S1x128_S128x128))
      (shapeCast S128x128 inv shapeCasts_S1x128x128_S128x128))) shapeCasts_S128x128_S128x128

/-- The unit's low four bits, two rows to a word. -/
def nibU (s : Vec F S1x128x128 .f32) (w : Vec F S1x128x128 .bf16) : IVec S64x128 32 :=
  andi (bitcast S64x128 32 (bitsU s w) bitcasts_S128x128_w16_S64x128_w32) (broadcast S64x128 983055#32)

/-- Two lane blocks' nibbles side by side in each half word. -/
def pairU (a b : IVec S64x128 32) : IVec S64x128 32 := ori a (shli b (broadcast S64x128 8#32))

/-- The halves' bytes moved next to one another. -/
def foldU (a : IVec S64x128 32) : IVec S64x128 32 := ori a (shrui a (broadcast S64x128 12#32))

/-- A group's words: the four lane blocks of a row pair, one byte each. -/
def halfU (n0 n1 n2 n3 : IVec S64x128 32) : IVec S64x128 32 :=
  ori (andi (foldU (pairU n0 n1)) (broadcast S64x128 65535#32)) (shli (foldU (pairU n2 n3)) (broadcast S64x128 16#32))

/-- A pair of groups' bytes. -/
def byteU (h0 h1 : IVec S64x128 32) : IVec S1x512x128 8 :=
  shapeCast S1x512x128 (bitcast S512x128 8 (transpose S128x128 [1, 0]
    (concatenate S128x128 0 [⟨S64x128, h0⟩, ⟨S64x128, h1⟩] concatenates_S64x128_S64x128_S128x128_d0)
    transposes_S128x128_p1_0_S128x128) bitcasts_S128x128_w32_S512x128_w8) shapeCasts_S512x128_S1x512x128

/-! ## One row of losses -/

/-- A chunk of 512 rows' share of the loss, eight partial sums to a column. -/
def chunkU (m : Vec F S512x2048 .bf16) (D : Vec F S2048x512 .bf16) (r : Vec F S512x128 .f32) (d : Vec F S512x512 .bf16) :
    FVec F S8x512 .f32 :=
  have d' : FVec F S512x512 .f32 := extf .f32 d bitsLt_bf16_f32
  have r' : FVec F S512x128 .f32 := shapeCast S512x128 r shapeCasts_S512x128_S512x128
  multiReduction .add [0] S8x512 (shapeCast S64x8x512 (mulf (addf
    (matmul dot_S512x2048_S2048x512_S512x512_1_0_0_1_n_n none (shapeCast S512x2048 m shapeCasts_S512x2048_S512x2048) D
      (constant S512x512 .f32 0x00000000#32))
    (mulf d' (concatenate S512x512 1 [⟨S512x128, r'⟩, ⟨S512x128, r'⟩, ⟨S512x128, r'⟩, ⟨S512x128, r'⟩]
      concatenates_S512x128_S512x128_S512x128_S512x128_S512x512_d1))) d') shapeCasts_S512x512_S64x8x512)
    0x00000000#32 reduces_S64x8x512_S8x512 (.inl rfl) rfl

/-- A row of losses from the four chunks' shares. -/
def rowU (a b c d : FVec F S8x512 .f32) : FVec F S1x1x512 .f32 :=
  shapeCast S1x1x512 (mulf (shapeCast S1x512 (multiReduction .add [0] S512
      (addf (addf (addf (addf (broadcast S8x512 (Scalar.ofBits .f32 0x00000000#32)) a) b) c) d)
      0x00000000#32 reduces_S8x512_S512 (.inl rfl) rfl) shapeCasts_S512_S1x512)
    (broadcast S1x512 (Scalar.ofBits .f32 0x39800000#32))) shapeCasts_S1x512_S1x1x512

/-! ## The rectangles -/

/-- Group `g`, lane block `b` of a weight tile. -/
abbrev rW (g : Fin 16) (b : Fin 4) : Rect S1x2048x512 :=
  Rect.unit ![0, 128 * g.val, 128 * b.val] S1x128x128.size (by
    intro a; have := g.isLt; have := b.isLt
    fin_cases a <;> simp [S1x2048x512, S1x128x128] <;> omega)

/-- Group `g` of grid value `p`'s scaling vector. -/
abbrev rS (p : Fin 2) (g : Fin 16) : Rect S2x2048x128 :=
  Rect.unit ![p.val, 128 * g.val, 0] S1x128x128.size (by
    intro a; have := g.isLt; have := p.isLt
    fin_cases a <;> simp [S2x2048x128, S1x128x128] <;> omega)

/-- Group `g`, lane block `b` of the error array. -/
abbrev rD (g : Fin 16) (b : Fin 4) : Rect S2048x512 :=
  Rect.unit ![128 * g.val, 128 * b.val] S128x128.size (by
    intro a; have := g.isLt; have := b.isLt
    fin_cases a <;> simp [S2048x512, S128x128] <;> omega)

/-- Grid value `p`, group `g`, lane block `b` of the scales block. -/
abbrev rSc (p : Fin 2) (g : Fin 16) (b : Fin 4) : Rect S2x1x16x512 :=
  Rect.unit ![p.val, 0, g.val, 128 * b.val] S1x1x1x128.size (by
    intro a; have := g.isLt; have := b.isLt; have := p.isLt
    fin_cases a <;> simp [S2x1x16x512, S1x1x1x128] <;> omega)

/-- Grid value `p`, pair of groups `h` of the codes block. -/
abbrev rC (p : Fin 2) (h : Fin 8) : Rect S2x512x1024 :=
  Rect.unit ![p.val, 0, 128 * h.val] S1x512x128.size (by
    intro a; have := h.isLt; have := p.isLt
    fin_cases a <;> simp [S2x512x1024, S1x512x128] <;> omega)

/-- Chunk `c` of the Gram array. -/
abbrev rM (c : Fin 4) : Rect S2048x2048 :=
  Rect.unit ![512 * c.val, 0] S512x2048.size (by
    intro a; have := c.isLt; fin_cases a <;> simp [S2048x2048, S512x2048] <;> omega)

/-- Chunk `c` of the diagonal rest. -/
abbrev rR (c : Fin 4) : Rect S2048x128 :=
  Rect.unit ![512 * c.val, 0] S512x128.size (by
    intro a; have := c.isLt; fin_cases a <;> simp [S2048x128, S512x128] <;> omega)

/-- Chunk `c` of the error array. -/
abbrev rE (c : Fin 4) : Rect S2048x512 :=
  Rect.unit ![512 * c.val, 0] S512x512.size (by
    intro a; have := c.isLt; fin_cases a <;> simp [S2048x512, S512x512] <;> omega)

/-- The whole of the error array. -/
abbrev rEall : Rect S2048x512 :=
  Rect.unit ![0, 0] S2048x512.size (by intro a; fin_cases a <;> simp [S2048x512])

/-! ## The families of stores, last store first; the blocks come from three functions of the rectangle -/

section Families

variable (w : (r : Rect S1x2048x512) → Vec F r.shape .bf16) (s : (r : Rect S2x2048x128) → Vec F r.shape .f32)
  (inv : (r : Rect S2x2048x128) → Vec F r.shape .bf16)

/-- Group and lane block of the `k`-th last store of 64. -/
def gOf (k : Fin 64) : Fin 16 := ⟨(63 - k.val) / 4, by have := k.isLt; omega⟩
def bOf (k : Fin 64) : Fin 4 := ⟨(63 - k.val) % 4, by omega⟩

/-- The error array's stores. -/
def famD (p : Fin 2) : List (View.Piece (Elt F) S2048x512 .bf16) :=
  List.ofFn fun k : Fin 64 => ⟨rD (gOf k) (bOf k), dU (s (rS p (gOf k))) (inv (rS p (gOf k))) (w (rW (gOf k) (bOf k)))⟩

/-- The scales block's stores for one grid value. -/
def famSc (p : Fin 2) : List (View.Piece (Elt F) S2x1x16x512 .f32) :=
  List.ofFn fun k : Fin 64 => ⟨rSc p (gOf k) (bOf k),
    shapeCast S1x1x1x128 (scU (s (rS p (gOf k))) (w (rW (gOf k) (bOf k)))) shapeCasts_S1x128_S1x1x1x128⟩

/-- A group's words from its blocks. -/
def halfOf (p : Fin 2) (g : Fin 16) : IVec S64x128 32 :=
  halfU (nibU (s (rS p g)) (w (rW g 0))) (nibU (s (rS p g)) (w (rW g 1)))
    (nibU (s (rS p g)) (w (rW g 2))) (nibU (s (rS p g)) (w (rW g 3)))

/-- The `k`-th last of eight pairs of groups; its even and odd groups. -/
def hOf (k : Fin 8) : Fin 8 := ⟨7 - k.val, by omega⟩
def evenOf (h : Fin 8) : Fin 16 := ⟨2 * h.val, by omega⟩
def oddOf (h : Fin 8) : Fin 16 := ⟨2 * h.val + 1, by omega⟩

/-- The codes block's stores for one grid value. -/
def famC (p : Fin 2) : List (View.Piece (Elt F) S2x512x1024 .i8) :=
  List.ofFn fun k : Fin 8 => ⟨rC p (hOf k), byteU (halfOf w s p (evenOf (hOf k))) (halfOf w s p (oddOf (hOf k)))⟩

end Families

/-- A row of losses from blocks. -/
def rowOf (m : (r : Rect S2048x2048) → Vec F r.shape .bf16) (r : (q : Rect S2048x128) → Vec F q.shape .f32)
    (d : (q : Rect S2048x512) → Vec F q.shape .bf16) : FVec F S1x1x512 .f32 :=
  rowU (chunkU (m (rM 0)) (d rEall) (r (rR 0)) (d (rE 0))) (chunkU (m (rM 1)) (d rEall) (r (rR 1)) (d (rE 1)))
    (chunkU (m (rM 2)) (d rEall) (r (rR 2)) (d (rE 2))) (chunkU (m (rM 3)) (d rEall) (r (rR 3)) (d (rE 3)))

/-! ## What a grid point leaves -/

variable (x0 : Vec F S2048x2048 .bf16) (x1 : Vec F S2048x128 .f32) (x2 : Vec F S1x2048x512 .bf16)
  (x3 : Vec F S2x2048x128 .f32) (x4 : Vec F S2x2048x128 .bf16)

/-- The error array of grid value `p`. -/
def dTile (p : Fin 2) : Vec F S2048x512 .bf16 := View.canon (famD (View.ld x2) (View.ld x3) (View.ld x4) p)

/-- The scales block. -/
def scTile : Vec F S2x1x16x512 .f32 := View.canon (famSc (View.ld x2) (View.ld x3) 1 ++ famSc (View.ld x2) (View.ld x3) 0)

/-- The codes block. -/
def cTile : Vec F S2x512x1024 .i8 := View.canon (famC (View.ld x2) (View.ld x3) 1 ++ famC (View.ld x2) (View.ld x3) 0)

/-- The row of losses of an error array. -/
def lossRow (d : Vec F S2048x512 .bf16) : FVec F S1x1x512 .f32 := rowOf (View.ld x0) (View.ld x1) (View.ld d)

/-- An error array of zeros. -/
def zeroD : Vec F S2048x512 .bf16 := shapeCast S2048x512 (broadcast S2048x512 (Scalar.ofBits .bf16 0x0000#16 : F .bf16)) shapeCasts_S2048x512_S2048x512

/-- A row put into the array of losses. -/
def lossPut (y : Vec F S321x1x512 .f32) (n : ℕ) (row : FVec F S1x1x512 .f32) : Vec F S321x1x512 .f32 :=
  fun j => if (j 0).val = n then row (ValueIdx.ix3 (0 : Fin 1) (0 : Fin 1) (j 2)) else y j

/-- The grid point is the first one: the condition of the body's first branch. -/
abbrev condA (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

end Cert.KernelIdeal.Main

end
-- ==== Proof.Main.Reads.lean ====
module

public import proofs.«01_k».proof.Proof.Main.Units
public import Idealize.ShloMosaic.Lib.Tactic

@[expose] public section

set_option maxRecDepth 16384

/-!
The families of stores that a grid point of the search call makes cover their buffers, and read back as the arrays of
`Units.lean`.
-/

noncomputable section

namespace Cert.KernelIdeal.Main

open Cert.KernelIdeal Cert.KernelIdeal.Gen
open Idealize.ShloMosaic Idealize.ShloMosaic.TcCoe
open Idealize.SL Idealize.SL.RA

variable {F : FTy → Type} [FloatOps F]

/-- A load of a rectangle of a whole buffer that holds `X` is `X` there. -/
theorem readAt_unread_ld {sig : RefSig} {Val : EltTy → Type} {κ : Kind} {sp : Space} {s : Shape} {e : EltTy}
    {m : Memref sig κ sp s e} (h : m.IsWhole) (X : s.Idx → Val e) :
    (fun r : Rect s => View.readAt Val m.view r.toLoadRect (h.unread X)) = View.ld X :=
  funext fun r => funext fun x => h.readAt_unread X r.toLoadRect x

section Families

variable (w : (r : Rect S1x2048x512) → Vec F r.shape .bf16) (s : (r : Rect S2x2048x128) → Vec F r.shape .f32)
  (inv : (r : Rect S2x2048x128) → Vec F r.shape .bf16)

theorem cover_famD (p : Fin 2) (y : S2048x512.Idx) : ∃ q ∈ famD w s inv p, y ∈ q.1.set :=
  View.cover_of_tiled (s := S2048x512) (famD w s inv p) ![128, 128] (by sl_kernel_rfl) y

theorem cover_famSc (y : S2x1x16x512.Idx) : ∃ q ∈ famSc w s 1 ++ famSc w s 0, y ∈ q.1.set :=
  View.cover_of_tiled (s := S2x1x16x512) (famSc w s 1 ++ famSc w s 0) ![1, 1, 1, 128] (by sl_kernel_rfl) y

theorem cover_famC (y : S2x512x1024.Idx) : ∃ q ∈ famC w s 1 ++ famC w s 0, y ∈ q.1.set :=
  View.cover_of_tiled (s := S2x512x1024) (famC w s 1 ++ famC w s 0) ![1, 512, 128] (by sl_kernel_rfl) y

end Families

/-- Stores that come before a covering list leave no trace. -/
theorem canon_append_cover {Val : EltTy → Type} [∀ e, Nonempty (Val e)] {S : Shape} {e : EltTy}
    (L' : List (View.Piece Val S e)) : ∀ (L : List (View.Piece Val S e)) (y : S.Idx), (∃ p ∈ L, y ∈ p.1.set) →
      View.canon (L ++ L') y = View.canon L y
  | [], _, h => by obtain ⟨_, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl]
      obtain ⟨r, u⟩ := p
      rw [View.canon_cons_emb, View.canon_cons_emb]
    · rw [List.cons_append, View.canon_cons_of_not_mem _ _ hm, View.canon_cons_of_not_mem _ _ hm]
      refine canon_append_cover L' L y ?_
      obtain ⟨q, hq, hyq⟩ := h
      rcases List.mem_cons.mp hq with rfl | hq'
      · exact absurd hyq hm
      · exact ⟨q, hq', hyq⟩

section Reads

variable {arg4 : Memref sig .tc .vmem S1x2048x512 .bf16} (harg4 : arg4.IsWhole)
  {arg5 : Memref sig .tc .vmem S2x2048x128 .f32} (harg5 : arg5.IsWhole)
  {arg6 : Memref sig .tc .vmem S2x2048x128 .bf16} (harg6 : arg6.IsWhole)
  {arg2 : Memref sig .tc .vmem S2048x2048 .bf16} (harg2 : arg2.IsWhole)
  {arg3 : Memref sig .tc .vmem S2048x128 .f32} (harg3 : arg3.IsWhole)
  (x0 : Vec F S2048x2048 .bf16) (x1 : Vec F S2048x128 .f32) (x2 : Vec F S1x2048x512 .bf16)
  (x3 : Vec F S2x2048x128 .f32) (x4 : Vec F S2x2048x128 .bf16)

/-- The weight blocks a grid point loads. -/
abbrev ldW : (r : Rect S1x2048x512) → Vec F r.shape .bf16 :=
  fun r => View.readAt (Elt F) arg4.view r.toLoadRect (harg4.unread x2)
abbrev ldS : (r : Rect S2x2048x128) → Vec F r.shape .f32 :=
  fun r => View.readAt (Elt F) arg5.view r.toLoadRect (harg5.unread x3)
abbrev ldI : (r : Rect S2x2048x128) → Vec F r.shape .bf16 :=
  fun r => View.readAt (Elt F) arg6.view r.toLoadRect (harg6.unread x4)
abbrev ldM : (r : Rect S2048x2048) → Vec F r.shape .bf16 :=
  fun r => View.readAt (Elt F) arg2.view r.toLoadRect (harg2.unread x0)
abbrev ldR : (r : Rect S2048x128) → Vec F r.shape .f32 :=
  fun r => View.readAt (Elt F) arg3.view r.toLoadRect (harg3.unread x1)

theorem ldW_eq : ldW harg4 x2 = View.ld x2 := readAt_unread_ld harg4 x2
theorem ldS_eq : ldS harg5 x3 = View.ld x3 := readAt_unread_ld harg5 x3
theorem ldI_eq : ldI harg6 x4 = View.ld x4 := readAt_unread_ld harg6 x4
theorem ldM_eq : ldM harg2 x0 = View.ld x0 := readAt_unread_ld harg2 x0
theorem ldR_eq : ldR harg3 x1 = View.ld x1 := readAt_unread_ld harg3 x1

/-- The error array's stores, over any earlier ones, have the canon `dTile`. -/
theorem canon_D (p : Fin 2) (L' : List (View.Piece (Elt F) S2048x512 .bf16)) :
    View.canon (famD (ldW harg4 x2) (ldS harg5 x3) (ldI harg6 x4) p ++ L') = dTile x2 x3 x4 p := by
  funext y
  rw [canon_append_cover _ _ _ (cover_famD _ _ _ p y), ldW_eq, ldS_eq, ldI_eq]
  rfl

theorem read_D (p : Fin 2) (v : View sig .tc .vmem S2048x512 .bf16) (f : v.ty.Contents (Elt F))
    (L L' : List (View.Piece (Elt F) S2048x512 .bf16))
    (h : L = famD (ldW harg4 x2) (ldS harg5 x3) (ldI harg6 x4) p ++ L') : v.read (Elt F) (v.writes (Elt F) f L) = dTile x2 x3 x4 p := by
  rw [← canon_D harg4 harg5 harg6 x2 x3 x4 p L', ← h]
  refine View.read_writes_eq_canon v f L fun y => ?_
  obtain ⟨q, hq, hy⟩ := cover_famD (ldW harg4 x2) (ldS harg5 x3) (ldI harg6 x4) p y
  exact ⟨q, h ▸ List.mem_append_left _ hq, hy⟩

theorem read_Sc (v : View sig .tc .vmem S2x1x16x512 .f32) (f : v.ty.Contents (Elt F))
    (L : List (View.Piece (Elt F) S2x1x16x512 .f32))
    (h : L = famSc (ldW harg4 x2) (ldS harg5 x3) 1 ++ famSc (ldW harg4 x2) (ldS harg5 x3) 0) :
    v.read (Elt F) (v.writes (Elt F) f L) = scTile x2 x3 := by
  rw [View.read_writes_eq_canon v f L (h ▸ cover_famSc _ _), h, ldW_eq, ldS_eq]
  rfl

theorem read_C (v : View sig .tc .vmem S2x512x1024 .i8) (f : v.ty.Contents (Elt F))
    (L : List (View.Piece (Elt F) S2x512x1024 .i8))
    (h : L = famC (ldW harg4 x2) (ldS harg5 x3) 1 ++ famC (ldW harg4 x2) (ldS harg5 x3) 0) :
    v.read (Elt F) (v.writes (Elt F) f L) = cTile x2 x3 := by
  rw [View.read_writes_eq_canon v f L (h ▸ cover_famC _ _), h, ldW_eq, ldS_eq]
  rfl

/-- A row of losses of an error array held in a buffer. -/
theorem row_unread {m : Memref sig .tc .vmem S2048x512 .bf16} (hm : m.IsWhole) (d : Vec F S2048x512 .bf16) :
    rowOf (ldM harg2 x0) (ldR harg3 x1) (fun r => View.readAt (Elt F) m.view r.toLoadRect (hm.unread d)) = lossRow x0 x1 d := by
  rw [ldM_eq, ldR_eq, readAt_unread_ld hm]
  rfl

/-- A row of losses of the error array just stored. -/
theorem row_D (p : Fin 2) (v : View sig .tc .vmem S2048x512 .bf16) (L L' : List (View.Piece (Elt F) S2048x512 .bf16))
    (h : L = famD (ldW harg4 x2) (ldS harg5 x3) (ldI harg6 x4) p ++ L') :
    rowOf (ldM harg2 x0) (ldR harg3 x1) (fun r => v.readCov L r.toLoadRect) = lossRow x0 x1 (dTile x2 x3 x4 p) := by
  have e : (fun r : Rect S2048x512 => v.readCov L r.toLoadRect) = View.ld (dTile x2 x3 x4 p) := by
    funext r
    rw [View.readCov_eq_canon', h, canon_D harg4 harg5 harg6 x2 x3 x4 p L']
  rw [e, ldM_eq, ldR_eq]
  rfl

/-- A row of losses of the error array just cleared. -/
theorem row_zero (v : View sig .tc .vmem S2048x512 .bf16) (inb : ∀ a, (![0, 0] : Fin 2 → ℕ) a + S2048x512.size a ≤ S2048x512.size a) :
    rowOf (ldM harg2 x0) (ldR harg3 x1) (fun r => v.readCov [⟨Rect.unit (s := S2048x512) ![0, 0] S2048x512.size inb, zeroD (F := F)⟩] r.toLoadRect)
      = lossRow x0 x1 zeroD := by
  have e : (fun r : Rect S2048x512 => v.readCov [⟨Rect.unit (s := S2048x512) ![0, 0] S2048x512.size inb, zeroD (F := F)⟩] r.toLoadRect) = View.ld (zeroD (F := F)) := by
    funext r
    rw [View.readCov_fill v inb (zeroD (F := F)) [] r (by intro a; fin_cases a <;> rfl)]
  rw [e, ldM_eq, ldR_eq]
  rfl

end Reads

/-- A row stored in the array of losses. -/
theorem read_lossPut (v : View sig .tc .vmem S321x1x512 .f32) (f : v.ty.Contents (Elt F)) (y : Vec F S321x1x512 .f32)
    {off : Fin 3 → ℕ} (inb : ∀ a, off a + S1x1x512.size a ≤ S321x1x512.size a) (n : ℕ) (hoff : off = ![n, 0, 0])
    (row row' : FVec F S1x1x512 .f32) (hrow : row = row') (L : List (View.Piece (Elt F) S321x1x512 .f32))
    (hy : v.read (Elt F) (v.writes (Elt F) f L) = y) :
    v.read (Elt F) (v.writes (Elt F) f (⟨Rect.unit (s := S321x1x512) off S1x1x512.size inb, row⟩ :: L)) = lossPut y n row' := by
  subst hoff hrow hy
  funext j
  unfold lossPut
  by_cases hj : (j 0).val = n
  · rw [if_pos hj]
    refine View.read_writes_cons_hit_of_coords v f (Rect.unit (s := S321x1x512) ![n, 0, 0] S1x1x512.size inb) row L (ValueIdx.ix3 (0 : Fin 1) (0 : Fin 1) (j 2)) _ fun a => ?_
    match a with
    | 0 => simpa using hj
    | 1 => have := (j 1).isLt; simp [S321x1x512] at this ⊢
    | 2 => simp
  · rw [if_neg hj]
    exact View.read_writes_cons_miss_of_axis v f _ _ _ 0 n 1 rfl rfl rfl (by omega)

end Cert.KernelIdeal.Main

end
-- ==== Proof.Main.Base.lean ====
/-
  One Pallas region of `@main` over the thread state "every unscoped buffer at a valuation": the record that
  `CSeg.regionAtR` turns into a segment, from relational proof data whose arrays start at the valuation and of which
  each array's final contents are known exactly.
-/
module

public import proofs.«01_k».proof.Proof.Gen.KernelIdeal.Launch
public import proofs.«01_k».proof.Proof.Gen.KernelIdeal.Regions
public import Idealize.ShloMosaic.Lib.Pipeline.RegionsForgetR
public import Idealize.ShloMosaic.Lib.Tactic

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The resource algebra of the whole program: one copy of the pipeline library's algebra per region. -/
abbrev UU : Type := IProdConst (Fin 3) (UR sig nD τ) × Counters

/-- The program's call variants: none. -/
abbrev 𝒱₀ : Variants := Variants.none
/-- No core owes another anything: no level is assigned. -/
abbrev L : GSem nD τ sig → Finset Unit := fun _ => ∅
/-- The levels, none of which is used. -/
abbrev lv : GSem nD τ sig → Unit → ℕ := fun _ _ => 0

/-- A family of relational proof data, one for each pipeline and core. -/
abbrev RFam (F : FTy → Type) [FloatOps F] : Type _ :=
  (p : Fin 3) → (c : Dev nD) → RDat τ (Elt F) Unit ℕ UU ℕ (Pipeline.pin (pcfgs (F := F)) adm p) c

/-- Relational proof data that say nothing, for the pipelines that a record does not run. -/
def junkR {cfg : Cfg sig Λ₀} (c : Dev nD) : RDat τ (Elt F) Unit ℕ UU ℕ cfg c where
  A _ := fun _ => Classical.arbitrary _
  after _ _ _ _ := True
  Φ _ := BI.emp
  q _ := fullShare
  owed _ := 0

/-- Exact proof data that say nothing. -/
def junkD {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- Exact proof data with the arrays and shares of relational ones. -/
def dOf (rd : RFam F) : (p : Fin 3) → (c : Dev nD) → Dat τ (Elt F) Unit ℕ UU ℕ (Pipeline.pin (pcfgs (F := F)) adm p) c := fun p c =>
  { A := (rd p c).A, after := fun _ _ => fun _ => Classical.arbitrary _, Φ := (rd p c).Φ, q := (rd p c).q, owed := (rd p c).owed }

/-- What a core's TensorCore references hold. -/
abbrev VC (F : FTy → Type) (c : Dev nD) : Type := (b : Ref sig .tc) → Buf (Elt F) ((c : Thread nD τ).loc b)

set_option backward.isDefEq.respectTransparency.types false in
/-- The record of region `p`, entered from every unscoped buffer at `V` and left at `V'`, of which the region's arrays
    are given by `hfin` and the rest is `V`. -/
def regR (p : Fin 3) (hl : Pipeline.LaunchFacts₀ (nD := nD) (τ := τ) cfgs p) (rd : RFam F) (V V' : (c : Dev nD) → VC F c)
    (hpre : ∀ c : Dev nD, (BI.emp : sProp (MT nD τ sig Unit (Elt F) ℕ UU ℕ)) ⊢ Pipeline.prefHeld (pcfgs (F := F) p).pre c (fun _ => fullShare) ((adm (F := F)) p).1)
    (hA : ∀ c w, (rd p c).A w = V c (Pipeline.arrRef (cfgs p).spec w))
    (hq : ∀ c w, ((cfgs p).spec w).isOut = false → (rd p c).q w = Pipeline.shareOf (cfgs p).spec w)
    (howed : ∀ c t, (rd p c).owed t = 0) (hrec : ∀ c t, (rd p c).recorded t = Set.univ)
    (hbody : ∀ c, (rd p c).BodyObligation (defs₀ (F := F)) 𝒱₀ () Set.univ)
    (hin : ∀ c, Pipeline.scopedRest (Ix := Unit) (Name := ℕ) (U := UU) (Lvl := ℕ) (Val := Elt F) (cfgs p).spec c ⊢ (rd p c).Φ 0)
    (hout : ∀ c, (rd p c).Φ (Fin.last _) ⊢ Pipeline.scopedRest (Ix := Unit) (Name := ℕ) (U := UU) (Lvl := ℕ) (Val := Elt F) (cfgs p).spec c)
    (hfin : ∀ c w G, (rd p c).ArrAt w (cfgs p).N G → G = V' c (Pipeline.arrRef (cfgs p).spec w))
    (hrest : ∀ c b, b ∉ Finset.univ.image (Pipeline.arrRef (cfgs p).spec) → V' c b = V c b) :
    RDat.RegionSeg (pcfgs (F := F)) adm rd () (defs₀ (F := F)) 𝒱₀ L lv p where
  win := hl.win
  block_pos := hl.block_pos
  stage_whole := hl.stage_whole
  K := PEmpty
  osem k := k.elim
  ho := Pipeline.OwnSemFacts.none _
  hbody := hbody
  hwaits c := (show (levAts L lv : sProp (MT nD τ sig Unit (Elt F) ℕ UU ℕ)) ⊢ BI.emp from by iintro -; iempintro).trans
    (RDat.cellsWaits_of_owed_zero _ rd () p c (howed c))
  pre c := iprop(unscopedBufs c (V c) ∗ ∃ W, owes (c : Thread nD τ) (0 : CellTallies nD τ sig Unit) W)
  post c := iprop(unscopedBufs c (V' c) ∗ ∃ W, owes (c : Thread nD τ) (0 : CellTallies nD τ sig Unit) W)
  X _ := BI.emp
  Y _ := BI.emp
  Z c := iprop(Pipeline.unscopedRest (Ix := Unit) (Name := ℕ) (U := UU) (Lvl := ℕ) (cfgs p).spec c (V c))
  hentry c := by
    rw [Pipeline.ownSems0_none]
    have hsplit : (unscopedBufs c (V c) : sProp (MT nD τ sig Unit (Elt F) ℕ UU ℕ)) ⊢ iprop((rd p c).arrays (rd p c).A
        ∗ Pipeline.unscopedRest (Ix := Unit) (Name := ℕ) (U := UU) (Lvl := ℕ) (cfgs p).spec c (V c)) :=
      Pipeline.arrays_of_unscopedBufs_shared (p := p) (pcfgs (F := F)) adm (dOf rd) hl.win hl.sharedIn hl.arr_whole c
        (hq c) (V c) (hA c)
    iintro ⟨⟨Hub, HO⟩, -, -⟩
    ihave H := hsplit $$ Hub
    icases H with ⟨Ha, Hrest⟩
    imodintro
    isplitl [Ha]; · iexact Ha
    isplitr; · iapply (hpre c); iempintro
    isplitl [HO]
    · unfold Pipeline.RDat.owesAt Pipeline.owesWithin
      icases HO with ⟨%W, HO⟩; iexists W
      rw [howed]
      isplitr; · ipureintro; intro x _; exact Or.inl (by rw [hrec]; trivial)
      iexact HO
    isplitr; · iempintro
    iexact Hrest
  hin c := by
    iintro ⟨-, -, Hr⟩; iapply (hin c); iexact Hr
  hout c := by
    rw [Pipeline.ownSems0_none]
    iintro Hr
    ihave Hr := (hout c) $$ Hr
    isplitr; · iempintro
    isplitr; · iempintro
    iexact Hr
  hexit c := by
    have hjoin := Pipeline.unscopedBufs_of_arrays_shared (p := p) (pcfgs (F := F)) adm (Ix := Unit) (Name := ℕ) (U := UU) (Lvl := ℕ) hl.win hl.sharedIn hl.arr_whole c
      (dOf rd) (hq c) (V c) (V' c) (fun w => V' c (Pipeline.arrRef (cfgs p).spec w)) (fun _ => rfl) (hrest c)
    have hx : (rd p c).arraysAt (cfgs p).N ⊢ (dOf rd p c).arrays (fun w => V' c (Pipeline.arrRef (cfgs p).spec w)) := by
      unfold RDat.arraysAt Dat.arrays
      refine bigSep_mono fun w _ => ?_
      have hw : ∀ G, (rd p c).ArrAt w (cfgs p).N G →
          ((((cfgs p).win w).arr.view.loc (c.tc : Thread nD τ) ↦[((cfgs p).win w).arr.view.set]{(rd p c).share w} G : sProp (MT nD τ sig Unit (Elt F) ℕ UU ℕ))
            ⊢ ((cfgs p).win w).arr.view.loc (c.tc : Thread nD τ) ↦[((cfgs p).win w).arr.view.set]{(rd p c).share w} (V' c (Pipeline.arrRef (cfgs p).spec w))) :=
        fun G hG => by rw [← hfin c w G hG]
      show iprop(∃ G, ⌜(rd p c).ArrAt w (cfgs p).N G⌝ ∗ ((cfgs p).win w).arr.view.loc (c.tc : Thread nD τ) ↦[((cfgs p).win w).arr.view.set]{(rd p c).share w} G)
        ⊢ (((cfgs p).win w).arr.view.loc (c.tc : Thread nD τ) ↦[((cfgs p).win w).arr.view.set]{(rd p c).share w} (V' c (Pipeline.arrRef (cfgs p).spec w)) : sProp (MT nD τ sig Unit (Elt F) ℕ UU ℕ))
      iintro ⟨%G, %hG, H⟩
      iapply (hw G hG)
      iexact H
    iintro ⟨Ha, HO, -, Hrest⟩
    imodintro
    isplitl [Ha Hrest]
    · iapply hjoin
      isplitl [Ha]; · iapply hx; iexact Ha
      iexact Hrest
    unfold Pipeline.RDat.owesAt Pipeline.owesWithin
    rw [howed]
    icases HO with ⟨%W, -, HO⟩; iexists W; iexact HO

end Cert.KernelIdeal.Main

end
-- ==== Proof.Main.RunA.lean ====
module

public import proofs.«01_k».proof.Proof.Main.Reads
public import proofs.«01_k».proof.Proof.Main.Base
public import proofs.«01_k».proof.Proof.Gen.KernelIdeal.Launch
public import Idealize.ShloMosaic.Lib.Pipeline.RegionsLoop
public import Idealize.ShloMosaic.Lib.Tactic

@[expose] public section

set_option maxRecDepth 16384

/-!
The first grid point of the search call, run on its buffers.
-/

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
/-- The first grid point: the error array is cleared first. -/
theorem runA (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S1x2048x512 .bf16) (harg4 : arg4.IsWhole) (arg5 : Memref sig .tc .vmem S2x2048x128 .f32) (harg5 : arg5.IsWhole) (arg6 : Memref sig .tc .vmem S2x2048x128 .bf16) (harg6 : arg6.IsWhole) (arg7 : Memref sig .tc .vmem S321x1x512 .f32) (harg7 : arg7.IsWhole) (arg8 : Memref sig .tc .vmem S2x512x1024 .i8) (harg8 : arg8.IsWhole) (arg9 : Memref sig .tc .vmem S2x1x16x512 .f32) (harg9 : arg9.IsWhole) (arg10 : Memref sig .tc .vmem S2048x512 .bf16) (harg10 : arg10.IsWhole) (arg11 : Memref sig .tc .vmem S2048x512 .bf16) (harg11 : arg11.IsWhole) (hc0 : condA i) (hc1 : ¬k2_cond2 i = 1#1)
    (n : ℕ) (hn1 : k2_off1 i = ![n, 0, 0]) (hn2 : k2_off2 i = ![n + 1, 0, 0])
    (x0 : Vec F S2048x2048 .bf16) (x1 : Vec F S2048x128 .f32) (x2 : Vec F S1x2048x512 .bf16) (x3 : Vec F S2x2048x128 .f32) (x4 : Vec F S2x2048x128 .bf16) (y5 : Vec F S321x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (lossPut (lossPut y5 n (lossRow x0 x1 zeroD)) (n + 1) (lossRow x0 x1 (dTile x2 x3 x4 0)))
                ∗ owns (c : Thread nD τ) arg8 fullShare (cTile x2 x3) ∗ owns (c : Thread nD τ) arg9 fullShare (scTile x2 x3)
                ∗ owns (c : Thread nD τ) arg10 fullShare (dTile x2 x3 x4 0) ∗ owns (c : Thread nD τ) arg11 fullShare (dTile x2 x3 x4 1)) -∗ K ⟨⟩))
          ⊢ wp frame (wpE (defs₀ (F := F)) Variants.none c none) E (cc2_awq_search i arg2 harg2 arg3 harg3 arg4 harg4 arg5 harg5 arg6 harg6 arg7 harg7 arg8 harg8 arg9 harg9 arg10 harg10 arg11 harg11) K := by
    intro E K
    simp only [cc2_awq_search_eq_skeleton]; unfold cc2_awq_search_skel
    simp only [k2_part156_eq_skeleton, k2_part2_eq_skeleton, k2_part3_eq_skeleton, k2_part4_eq_skeleton,
        k2_part5_eq_skeleton, k2_part6_eq_skeleton, k2_part7_eq_skeleton, k2_part8_eq_skeleton, k2_part9_eq_skeleton,
        k2_part10_eq_skeleton, k2_part11_eq_skeleton, k2_part12_eq_skeleton, k2_part13_eq_skeleton,
        k2_part14_eq_skeleton, k2_part15_eq_skeleton, k2_part16_eq_skeleton, k2_part17_eq_skeleton,
        k2_part18_eq_skeleton, k2_part19_eq_skeleton, k2_part20_eq_skeleton, k2_part21_eq_skeleton,
        k2_part22_eq_skeleton, k2_part23_eq_skeleton, k2_part24_eq_skeleton, k2_part25_eq_skeleton,
        k2_part26_eq_skeleton, k2_part27_eq_skeleton, k2_part28_eq_skeleton, k2_part29_eq_skeleton,
        k2_part30_eq_skeleton, k2_part31_eq_skeleton, k2_part32_eq_skeleton, k2_part33_eq_skeleton,
        k2_part34_eq_skeleton, k2_part35_eq_skeleton, k2_part36_eq_skeleton, k2_part37_eq_skeleton,
        k2_part38_eq_skeleton, k2_part39_eq_skeleton, k2_part40_eq_skeleton, k2_part41_eq_skeleton,
        k2_part42_eq_skeleton, k2_part43_eq_skeleton, k2_part44_eq_skeleton, k2_part45_eq_skeleton,
        k2_part46_eq_skeleton, k2_part47_eq_skeleton, k2_part48_eq_skeleton, k2_part49_eq_skeleton,
        k2_part50_eq_skeleton, k2_part51_eq_skeleton, k2_part52_eq_skeleton, k2_part53_eq_skeleton,
        k2_part54_eq_skeleton, k2_part55_eq_skeleton, k2_part56_eq_skeleton, k2_part57_eq_skeleton,
        k2_part58_eq_skeleton, k2_part59_eq_skeleton, k2_part60_eq_skeleton, k2_part61_eq_skeleton,
        k2_part157_eq_skeleton, k2_part62_eq_skeleton, k2_part63_eq_skeleton, k2_part64_eq_skeleton,
        k2_part65_eq_skeleton, k2_part66_eq_skeleton, k2_part67_eq_skeleton, k2_part68_eq_skeleton,
        k2_part69_eq_skeleton, k2_part70_eq_skeleton, k2_part71_eq_skeleton, k2_part72_eq_skeleton,
        k2_part73_eq_skeleton, k2_part74_eq_skeleton, k2_part75_eq_skeleton, k2_part76_eq_skeleton,
        k2_part77_eq_skeleton, k2_part78_eq_skeleton, k2_part79_eq_skeleton, k2_part80_eq_skeleton,
        k2_part81_eq_skeleton, k2_part82_eq_skeleton, k2_part83_eq_skeleton, k2_part84_eq_skeleton,
        k2_part85_eq_skeleton, k2_part86_eq_skeleton, k2_part87_eq_skeleton, k2_part88_eq_skeleton,
        k2_part89_eq_skeleton, k2_part90_eq_skeleton, k2_part91_eq_skeleton, k2_part92_eq_skeleton,
        k2_part93_eq_skeleton, k2_part94_eq_skeleton, k2_part95_eq_skeleton, k2_part96_eq_skeleton,
        k2_part97_eq_skeleton, k2_part98_eq_skeleton, k2_part99_eq_skeleton, k2_part100_eq_skeleton,
        k2_part101_eq_skeleton, k2_part102_eq_skeleton, k2_part103_eq_skeleton, k2_part104_eq_skeleton,
        k2_part105_eq_skeleton, k2_part106_eq_skeleton, k2_part107_eq_skeleton, k2_part108_eq_skeleton,
        k2_part109_eq_skeleton, k2_part110_eq_skeleton, k2_part111_eq_skeleton, k2_part112_eq_skeleton,
        k2_part113_eq_skeleton, k2_part114_eq_skeleton, k2_part115_eq_skeleton, k2_part116_eq_skeleton,
        k2_part117_eq_skeleton, k2_part118_eq_skeleton, k2_part119_eq_skeleton, k2_part120_eq_skeleton,
        k2_part121_eq_skeleton, k2_part158_eq_skeleton, k2_part122_eq_skeleton, k2_part123_eq_skeleton,
        k2_part124_eq_skeleton, k2_part125_eq_skeleton, k2_part126_eq_skeleton, k2_part127_eq_skeleton,
        k2_part128_eq_skeleton, k2_part129_eq_skeleton, k2_part130_eq_skeleton, k2_part131_eq_skeleton,
        k2_part132_eq_skeleton, k2_part133_eq_skeleton, k2_part134_eq_skeleton, k2_part135_eq_skeleton,
        k2_part136_eq_skeleton, k2_part137_eq_skeleton, k2_part138_eq_skeleton, k2_part139_eq_skeleton,
        k2_part140_eq_skeleton, k2_part141_eq_skeleton, k2_part142_eq_skeleton, k2_part143_eq_skeleton,
        k2_part144_eq_skeleton, k2_part145_eq_skeleton, k2_part146_eq_skeleton, k2_part147_eq_skeleton,
        k2_part148_eq_skeleton, k2_part149_eq_skeleton, k2_part150_eq_skeleton, k2_part151_eq_skeleton,
        k2_part152_eq_skeleton, k2_part153_eq_skeleton, k2_part154_eq_skeleton, k2_part155_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact read_lossPut arg7.view _ _ (k2_off2_inb i) (n + 1) hn2 _ _ (Eq.trans (by sl_kernel_rfl) (row_D harg4 harg5 harg6 harg2 harg3 x0 x1 x2 x3 x4 0 arg10.view (famD (ldW harg4 x2) (ldS harg5 x3) (ldI harg6 x4) 0) [] (List.append_nil _).symm)) _
        (read_lossPut arg7.view _ y5 (k2_off1_inb i) n hn1 _ _ (Eq.trans (by sl_kernel_rfl) (row_zero harg2 harg3 x0 x1 arg11.view inb_S2048x512_S2048x512_0_0)) [] (harg7.read_unread y5))
    isplitl [H6]
    · iexists _; isplitr; swap; · iexact H6
      ipureintro
      exact read_C harg4 harg5 x2 x3 arg8.view _ _ (by sl_kernel_rfl)
    isplitl [H7]
    · iexists _; isplitr; swap; · iexact H7
      ipureintro
      exact read_Sc harg4 harg5 x2 x3 arg9.view _ _ (by sl_kernel_rfl)
    isplitl [HS0]
    · iexists _; isplitr; swap; · iexact HS0
      ipureintro
      exact read_D harg4 harg5 harg6 x2 x3 x4 0 arg10.view _ _ [] (by sl_kernel_rfl)
    iexists _; isplitr; swap; · iexact HS1
    ipureintro
    exact read_D harg4 harg5 harg6 x2 x3 x4 1 arg11.view _ _ [⟨Rect.unit (s := S2048x512) ![0, 0] S2048x512.size inb_S2048x512_S2048x512_0_0, k2_pay5 (F := F)⟩] (by sl_kernel_rfl)

end Cert.KernelIdeal.Main

end
-- ==== Proof.Main.RunB.lean ====
module

public import proofs.«01_k».proof.Proof.Main.Reads
public import proofs.«01_k».proof.Proof.Main.Base
public import proofs.«01_k».proof.Proof.Gen.KernelIdeal.Launch
public import Idealize.ShloMosaic.Lib.Pipeline.RegionsLoop
public import Idealize.ShloMosaic.Lib.Tactic

@[expose] public section

set_option maxRecDepth 16384

/-!
A middle grid point of the search call, run on its buffers.
-/

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
/-- A grid point that is neither the first nor the last. -/
theorem runB (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S1x2048x512 .bf16) (harg4 : arg4.IsWhole) (arg5 : Memref sig .tc .vmem S2x2048x128 .f32) (harg5 : arg5.IsWhole) (arg6 : Memref sig .tc .vmem S2x2048x128 .bf16) (harg6 : arg6.IsWhole) (arg7 : Memref sig .tc .vmem S321x1x512 .f32) (harg7 : arg7.IsWhole) (arg8 : Memref sig .tc .vmem S2x512x1024 .i8) (harg8 : arg8.IsWhole) (arg9 : Memref sig .tc .vmem S2x1x16x512 .f32) (harg9 : arg9.IsWhole) (arg10 : Memref sig .tc .vmem S2048x512 .bf16) (harg10 : arg10.IsWhole) (arg11 : Memref sig .tc .vmem S2048x512 .bf16) (harg11 : arg11.IsWhole) (hc0 : ¬condA i) (hc1 : ¬k2_cond2 i = 1#1)
    (n : ℕ) (hn1 : k2_off1 i = ![n, 0, 0]) (hn2 : k2_off2 i = ![n + 1, 0, 0])
    (x0 : Vec F S2048x2048 .bf16) (x1 : Vec F S2048x128 .f32) (x2 : Vec F S1x2048x512 .bf16) (x3 : Vec F S2x2048x128 .f32) (x4 : Vec F S2x2048x128 .bf16) (y5 : Vec F S321x1x512 .f32) (yb : Vec F S2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare yb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (lossPut (lossPut y5 n (lossRow x0 x1 yb)) (n + 1) (lossRow x0 x1 (dTile x2 x3 x4 0)))
                ∗ owns (c : Thread nD τ) arg8 fullShare (cTile x2 x3) ∗ owns (c : Thread nD τ) arg9 fullShare (scTile x2 x3)
                ∗ owns (c : Thread nD τ) arg10 fullShare (dTile x2 x3 x4 0) ∗ owns (c : Thread nD τ) arg11 fullShare (dTile x2 x3 x4 1)) -∗ K ⟨⟩))
          ⊢ wp frame (wpE (defs₀ (F := F)) Variants.none c none) E (cc2_awq_search i arg2 harg2 arg3 harg3 arg4 harg4 arg5 harg5 arg6 harg6 arg7 harg7 arg8 harg8 arg9 harg9 arg10 harg10 arg11 harg11) K := by
    intro E K
    simp only [cc2_awq_search_eq_skeleton]; unfold cc2_awq_search_skel
    simp only [k2_part156_eq_skeleton, k2_part2_eq_skeleton, k2_part3_eq_skeleton, k2_part4_eq_skeleton,
        k2_part5_eq_skeleton, k2_part6_eq_skeleton, k2_part7_eq_skeleton, k2_part8_eq_skeleton, k2_part9_eq_skeleton,
        k2_part10_eq_skeleton, k2_part11_eq_skeleton, k2_part12_eq_skeleton, k2_part13_eq_skeleton,
        k2_part14_eq_skeleton, k2_part15_eq_skeleton, k2_part16_eq_skeleton, k2_part17_eq_skeleton,
        k2_part18_eq_skeleton, k2_part19_eq_skeleton, k2_part20_eq_skeleton, k2_part21_eq_skeleton,
        k2_part22_eq_skeleton, k2_part23_eq_skeleton, k2_part24_eq_skeleton, k2_part25_eq_skeleton,
        k2_part26_eq_skeleton, k2_part27_eq_skeleton, k2_part28_eq_skeleton, k2_part29_eq_skeleton,
        k2_part30_eq_skeleton, k2_part31_eq_skeleton, k2_part32_eq_skeleton, k2_part33_eq_skeleton,
        k2_part34_eq_skeleton, k2_part35_eq_skeleton, k2_part36_eq_skeleton, k2_part37_eq_skeleton,
        k2_part38_eq_skeleton, k2_part39_eq_skeleton, k2_part40_eq_skeleton, k2_part41_eq_skeleton,
        k2_part42_eq_skeleton, k2_part43_eq_skeleton, k2_part44_eq_skeleton, k2_part45_eq_skeleton,
        k2_part46_eq_skeleton, k2_part47_eq_skeleton, k2_part48_eq_skeleton, k2_part49_eq_skeleton,
        k2_part50_eq_skeleton, k2_part51_eq_skeleton, k2_part52_eq_skeleton, k2_part53_eq_skeleton,
        k2_part54_eq_skeleton, k2_part55_eq_skeleton, k2_part56_eq_skeleton, k2_part57_eq_skeleton,
        k2_part58_eq_skeleton, k2_part59_eq_skeleton, k2_part60_eq_skeleton, k2_part61_eq_skeleton,
        k2_part157_eq_skeleton, k2_part62_eq_skeleton, k2_part63_eq_skeleton, k2_part64_eq_skeleton,
        k2_part65_eq_skeleton, k2_part66_eq_skeleton, k2_part67_eq_skeleton, k2_part68_eq_skeleton,
        k2_part69_eq_skeleton, k2_part70_eq_skeleton, k2_part71_eq_skeleton, k2_part72_eq_skeleton,
        k2_part73_eq_skeleton, k2_part74_eq_skeleton, k2_part75_eq_skeleton, k2_part76_eq_skeleton,
        k2_part77_eq_skeleton, k2_part78_eq_skeleton, k2_part79_eq_skeleton, k2_part80_eq_skeleton,
        k2_part81_eq_skeleton, k2_part82_eq_skeleton, k2_part83_eq_skeleton, k2_part84_eq_skeleton,
        k2_part85_eq_skeleton, k2_part86_eq_skeleton, k2_part87_eq_skeleton, k2_part88_eq_skeleton,
        k2_part89_eq_skeleton, k2_part90_eq_skeleton, k2_part91_eq_skeleton, k2_part92_eq_skeleton,
        k2_part93_eq_skeleton, k2_part94_eq_skeleton, k2_part95_eq_skeleton, k2_part96_eq_skeleton,
        k2_part97_eq_skeleton, k2_part98_eq_skeleton, k2_part99_eq_skeleton, k2_part100_eq_skeleton,
        k2_part101_eq_skeleton, k2_part102_eq_skeleton, k2_part103_eq_skeleton, k2_part104_eq_skeleton,
        k2_part105_eq_skeleton, k2_part106_eq_skeleton, k2_part107_eq_skeleton, k2_part108_eq_skeleton,
        k2_part109_eq_skeleton, k2_part110_eq_skeleton, k2_part111_eq_skeleton, k2_part112_eq_skeleton,
        k2_part113_eq_skeleton, k2_part114_eq_skeleton, k2_part115_eq_skeleton, k2_part116_eq_skeleton,
        k2_part117_eq_skeleton, k2_part118_eq_skeleton, k2_part119_eq_skeleton, k2_part120_eq_skeleton,
        k2_part121_eq_skeleton, k2_part158_eq_skeleton, k2_part122_eq_skeleton, k2_part123_eq_skeleton,
        k2_part124_eq_skeleton, k2_part125_eq_skeleton, k2_part126_eq_skeleton, k2_part127_eq_skeleton,
        k2_part128_eq_skeleton, k2_part129_eq_skeleton, k2_part130_eq_skeleton, k2_part131_eq_skeleton,
        k2_part132_eq_skeleton, k2_part133_eq_skeleton, k2_part134_eq_skeleton, k2_part135_eq_skeleton,
        k2_part136_eq_skeleton, k2_part137_eq_skeleton, k2_part138_eq_skeleton, k2_part139_eq_skeleton,
        k2_part140_eq_skeleton, k2_part141_eq_skeleton, k2_part142_eq_skeleton, k2_part143_eq_skeleton,
        k2_part144_eq_skeleton, k2_part145_eq_skeleton, k2_part146_eq_skeleton, k2_part147_eq_skeleton,
        k2_part148_eq_skeleton, k2_part149_eq_skeleton, k2_part150_eq_skeleton, k2_part151_eq_skeleton,
        k2_part152_eq_skeleton, k2_part153_eq_skeleton, k2_part154_eq_skeleton, k2_part155_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact read_lossPut arg7.view _ _ (k2_off2_inb i) (n + 1) hn2 _ _ (Eq.trans (by sl_kernel_rfl) (row_D harg4 harg5 harg6 harg2 harg3 x0 x1 x2 x3 x4 0 arg10.view (famD (ldW harg4 x2) (ldS harg5 x3) (ldI harg6 x4) 0) [] (List.append_nil _).symm)) _
        (read_lossPut arg7.view _ y5 (k2_off1_inb i) n hn1 _ _ (Eq.trans (by sl_kernel_rfl) (row_unread harg2 harg3 x0 x1 harg11 yb)) [] (harg7.read_unread y5))
    isplitl [H6]
    · iexists _; isplitr; swap; · iexact H6
      ipureintro
      exact read_C harg4 harg5 x2 x3 arg8.view _ _ (by sl_kernel_rfl)
    isplitl [H7]
    · iexists _; isplitr; swap; · iexact H7
      ipureintro
      exact read_Sc harg4 harg5 x2 x3 arg9.view _ _ (by sl_kernel_rfl)
    isplitl [HS0]
    · iexists _; isplitr; swap; · iexact HS0
      ipureintro
      exact read_D harg4 harg5 harg6 x2 x3 x4 0 arg10.view _ _ [] (by sl_kernel_rfl)
    iexists _; isplitr; swap; · iexact HS1
    ipureintro
    exact read_D harg4 harg5 harg6 x2 x3 x4 1 arg11.view _ _ [] (by sl_kernel_rfl)

end Cert.KernelIdeal.Main

end
-- ==== Proof.Main.RunC.lean ====
module

public import proofs.«01_k».proof.Proof.Main.Reads
public import proofs.«01_k».proof.Proof.Main.Base
public import proofs.«01_k».proof.Proof.Gen.KernelIdeal.Launch
public import Idealize.ShloMosaic.Lib.Pipeline.RegionsLoop
public import Idealize.ShloMosaic.Lib.Tactic

@[expose] public section

set_option maxRecDepth 16384

/-!
The last grid point of the search call, run on its buffers.
-/

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
/-- The last grid point: it adds the row of losses of its own second grid value. -/
theorem runC (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S1x2048x512 .bf16) (harg4 : arg4.IsWhole) (arg5 : Memref sig .tc .vmem S2x2048x128 .f32) (harg5 : arg5.IsWhole) (arg6 : Memref sig .tc .vmem S2x2048x128 .bf16) (harg6 : arg6.IsWhole) (arg7 : Memref sig .tc .vmem S321x1x512 .f32) (harg7 : arg7.IsWhole) (arg8 : Memref sig .tc .vmem S2x512x1024 .i8) (harg8 : arg8.IsWhole) (arg9 : Memref sig .tc .vmem S2x1x16x512 .f32) (harg9 : arg9.IsWhole) (arg10 : Memref sig .tc .vmem S2048x512 .bf16) (harg10 : arg10.IsWhole) (arg11 : Memref sig .tc .vmem S2048x512 .bf16) (harg11 : arg11.IsWhole) (hc0 : ¬condA i) (hc1 : k2_cond2 i = 1#1)
    (n : ℕ) (hn1 : k2_off1 i = ![n, 0, 0]) (hn2 : k2_off2 i = ![n + 1, 0, 0]) (hn3 : k2_off3 i = ![n + 2, 0, 0])
    (x0 : Vec F S2048x2048 .bf16) (x1 : Vec F S2048x128 .f32) (x2 : Vec F S1x2048x512 .bf16) (x3 : Vec F S2x2048x128 .f32) (x4 : Vec F S2x2048x128 .bf16) (y5 : Vec F S321x1x512 .f32) (yb : Vec F S2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare yb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (lossPut (lossPut (lossPut y5 n (lossRow x0 x1 yb)) (n + 1) (lossRow x0 x1 (dTile x2 x3 x4 0))) (n + 2) (lossRow x0 x1 (dTile x2 x3 x4 1)))
                ∗ owns (c : Thread nD τ) arg8 fullShare (cTile x2 x3) ∗ owns (c : Thread nD τ) arg9 fullShare (scTile x2 x3)
                ∗ owns (c : Thread nD τ) arg10 fullShare (dTile x2 x3 x4 0) ∗ owns (c : Thread nD τ) arg11 fullShare (dTile x2 x3 x4 1)) -∗ K ⟨⟩))
          ⊢ wp frame (wpE (defs₀ (F := F)) Variants.none c none) E (cc2_awq_search i arg2 harg2 arg3 harg3 arg4 harg4 arg5 harg5 arg6 harg6 arg7 harg7 arg8 harg8 arg9 harg9 arg10 harg10 arg11 harg11) K := by
    intro E K
    simp only [cc2_awq_search_eq_skeleton]; unfold cc2_awq_search_skel
    simp only [k2_part156_eq_skeleton, k2_part2_eq_skeleton, k2_part3_eq_skeleton, k2_part4_eq_skeleton,
        k2_part5_eq_skeleton, k2_part6_eq_skeleton, k2_part7_eq_skeleton, k2_part8_eq_skeleton, k2_part9_eq_skeleton,
        k2_part10_eq_skeleton, k2_part11_eq_skeleton, k2_part12_eq_skeleton, k2_part13_eq_skeleton,
        k2_part14_eq_skeleton, k2_part15_eq_skeleton, k2_part16_eq_skeleton, k2_part17_eq_skeleton,
        k2_part18_eq_skeleton, k2_part19_eq_skeleton, k2_part20_eq_skeleton, k2_part21_eq_skeleton,
        k2_part22_eq_skeleton, k2_part23_eq_skeleton, k2_part24_eq_skeleton, k2_part25_eq_skeleton,
        k2_part26_eq_skeleton, k2_part27_eq_skeleton, k2_part28_eq_skeleton, k2_part29_eq_skeleton,
        k2_part30_eq_skeleton, k2_part31_eq_skeleton, k2_part32_eq_skeleton, k2_part33_eq_skeleton,
        k2_part34_eq_skeleton, k2_part35_eq_skeleton, k2_part36_eq_skeleton, k2_part37_eq_skeleton,
        k2_part38_eq_skeleton, k2_part39_eq_skeleton, k2_part40_eq_skeleton, k2_part41_eq_skeleton,
        k2_part42_eq_skeleton, k2_part43_eq_skeleton, k2_part44_eq_skeleton, k2_part45_eq_skeleton,
        k2_part46_eq_skeleton, k2_part47_eq_skeleton, k2_part48_eq_skeleton, k2_part49_eq_skeleton,
        k2_part50_eq_skeleton, k2_part51_eq_skeleton, k2_part52_eq_skeleton, k2_part53_eq_skeleton,
        k2_part54_eq_skeleton, k2_part55_eq_skeleton, k2_part56_eq_skeleton, k2_part57_eq_skeleton,
        k2_part58_eq_skeleton, k2_part59_eq_skeleton, k2_part60_eq_skeleton, k2_part61_eq_skeleton,
        k2_part157_eq_skeleton, k2_part62_eq_skeleton, k2_part63_eq_skeleton, k2_part64_eq_skeleton,
        k2_part65_eq_skeleton, k2_part66_eq_skeleton, k2_part67_eq_skeleton, k2_part68_eq_skeleton,
        k2_part69_eq_skeleton, k2_part70_eq_skeleton, k2_part71_eq_skeleton, k2_part72_eq_skeleton,
        k2_part73_eq_skeleton, k2_part74_eq_skeleton, k2_part75_eq_skeleton, k2_part76_eq_skeleton,
        k2_part77_eq_skeleton, k2_part78_eq_skeleton, k2_part79_eq_skeleton, k2_part80_eq_skeleton,
        k2_part81_eq_skeleton, k2_part82_eq_skeleton, k2_part83_eq_skeleton, k2_part84_eq_skeleton,
        k2_part85_eq_skeleton, k2_part86_eq_skeleton, k2_part87_eq_skeleton, k2_part88_eq_skeleton,
        k2_part89_eq_skeleton, k2_part90_eq_skeleton, k2_part91_eq_skeleton, k2_part92_eq_skeleton,
        k2_part93_eq_skeleton, k2_part94_eq_skeleton, k2_part95_eq_skeleton, k2_part96_eq_skeleton,
        k2_part97_eq_skeleton, k2_part98_eq_skeleton, k2_part99_eq_skeleton, k2_part100_eq_skeleton,
        k2_part101_eq_skeleton, k2_part102_eq_skeleton, k2_part103_eq_skeleton, k2_part104_eq_skeleton,
        k2_part105_eq_skeleton, k2_part106_eq_skeleton, k2_part107_eq_skeleton, k2_part108_eq_skeleton,
        k2_part109_eq_skeleton, k2_part110_eq_skeleton, k2_part111_eq_skeleton, k2_part112_eq_skeleton,
        k2_part113_eq_skeleton, k2_part114_eq_skeleton, k2_part115_eq_skeleton, k2_part116_eq_skeleton,
        k2_part117_eq_skeleton, k2_part118_eq_skeleton, k2_part119_eq_skeleton, k2_part120_eq_skeleton,
        k2_part121_eq_skeleton, k2_part158_eq_skeleton, k2_part122_eq_skeleton, k2_part123_eq_skeleton,
        k2_part124_eq_skeleton, k2_part125_eq_skeleton, k2_part126_eq_skeleton, k2_part127_eq_skeleton,
        k2_part128_eq_skeleton, k2_part129_eq_skeleton, k2_part130_eq_skeleton, k2_part131_eq_skeleton,
        k2_part132_eq_skeleton, k2_part133_eq_skeleton, k2_part134_eq_skeleton, k2_part135_eq_skeleton,
        k2_part136_eq_skeleton, k2_part137_eq_skeleton, k2_part138_eq_skeleton, k2_part139_eq_skeleton,
        k2_part140_eq_skeleton, k2_part141_eq_skeleton, k2_part142_eq_skeleton, k2_part143_eq_skeleton,
        k2_part144_eq_skeleton, k2_part145_eq_skeleton, k2_part146_eq_skeleton, k2_part147_eq_skeleton,
        k2_part148_eq_skeleton, k2_part149_eq_skeleton, k2_part150_eq_skeleton, k2_part151_eq_skeleton,
        k2_part152_eq_skeleton, k2_part153_eq_skeleton, k2_part154_eq_skeleton, k2_part155_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact read_lossPut arg7.view _ _ (k2_off3_inb i hc1) (n + 2) hn3 _ _ (Eq.trans (by sl_kernel_rfl) (row_D harg4 harg5 harg6 harg2 harg3 x0 x1 x2 x3 x4 1 arg11.view (famD (ldW harg4 x2) (ldS harg5 x3) (ldI harg6 x4) 1) [] (List.append_nil _).symm)) _
        (read_lossPut arg7.view _ _ (k2_off2_inb i) (n + 1) hn2 _ _ (Eq.trans (by sl_kernel_rfl) (row_D harg4 harg5 harg6 harg2 harg3 x0 x1 x2 x3 x4 0 arg10.view (famD (ldW harg4 x2) (ldS harg5 x3) (ldI harg6 x4) 0) [] (List.append_nil _).symm)) _
        (read_lossPut arg7.view _ y5 (k2_off1_inb i) n hn1 _ _ (Eq.trans (by sl_kernel_rfl) (row_unread harg2 harg3 x0 x1 harg11 yb)) [] (harg7.read_unread y5)))
    isplitl [H6]
    · iexists _; isplitr; swap; · iexact H6
      ipureintro
      exact read_C harg4 harg5 x2 x3 arg8.view _ _ (by sl_kernel_rfl)
    isplitl [H7]
    · iexists _; isplitr; swap; · iexact H7
      ipureintro
      exact read_Sc harg4 harg5 x2 x3 arg9.view _ _ (by sl_kernel_rfl)
    isplitl [HS0]
    · iexists _; isplitr; swap; · iexact HS0
      ipureintro
      exact read_D harg4 harg5 harg6 x2 x3 x4 0 arg10.view _ _ [] (by sl_kernel_rfl)
    iexists _; isplitr; swap; · iexact HS1
    ipureintro
    exact read_D harg4 harg5 harg6 x2 x3 x4 1 arg11.view _ _ [] (by sl_kernel_rfl)

end Cert.KernelIdeal.Main

end
-- ==== Proof.Main.Data2.lean ====
/-
  The search call over the thread state "every unscoped buffer at a valuation": what each grid point leaves, the error
  arrays in the order in which their losses are taken, and the arrays that the call ends with.
-/
module

public import proofs.«01_k».proof.Proof.Main.Base
public import proofs.«01_k».proof.Proof.Main.Units
public import proofs.«01_k».proof.Proof.Gen.KernelIdeal.Points

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-! ## The points of the grid -/

theorem condA_iff (t : Fin cfg2.N) : condA (grid2.coords t) ↔ t.val = 0 :=
  (by decide +kernel : ∀ t : Fin grid2.N, condA (grid2.coords t) ↔ t.val = 0) t
theorem cond2_iff (t : Fin cfg2.N) : k2_cond2 (grid2.coords t) = 1#1 ↔ t.val = 159 :=
  (by decide +kernel : ∀ t : Fin grid2.N, k2_cond2 (grid2.coords t) = 1#1 ↔ t.val = 159) t
theorem off1_eq (t : Fin cfg2.N) : k2_off1 (grid2.coords t) = ![2 * t.val, 0, 0] :=
  (by decide +kernel : ∀ t : Fin grid2.N, k2_off1 (grid2.coords t) = ![2 * t.val, 0, 0]) t
theorem off2_eq (t : Fin cfg2.N) : k2_off2 (grid2.coords t) = ![2 * t.val + 1, 0, 0] :=
  (by decide +kernel : ∀ t : Fin grid2.N, k2_off2 (grid2.coords t) = ![2 * t.val + 1, 0, 0]) t
theorem off3_eq (t : Fin cfg2.N) : k2_off3 (grid2.coords t) = ![2 * t.val + 2, 0, 0] :=
  (by decide +kernel : ∀ t : Fin grid2.N, k2_off3 (grid2.coords t) = ![2 * t.val + 2, 0, 0]) t

/-! ## The values -/

variable (V : (c : Dev nD) → VC F c)

/-- Window `w`'s block at point `t`, of the arrays at entry. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first point. -/
abbrev tz : Fin cfg2.N := ⟨0, by rw [show cfg2.N = 160 from N_2]; decide⟩

/-- The matrix and the remainders, whole. -/
def bM (c : Dev nD) : Vec F S2048x2048 .bf16 := iblk V c 0 tz
def bR (c : Dev nD) : Vec F S2048x128 .f32 := iblk V c 1 tz
/-- The weights of a point's tile, the scales and the inverses of its two grid values. -/
def bW (c : Dev nD) (t : Fin cfg2.N) : Vec F S1x2048x512 .bf16 := iblk V c 2 t
def bS (c : Dev nD) (t : Fin cfg2.N) : Vec F S2x2048x128 .f32 := iblk V c 3 t
def bI (c : Dev nD) (t : Fin cfg2.N) : Vec F S2x2048x128 .bf16 := iblk V c 4 t

/-- The error arrays in the order in which their losses are taken: zeros, then two for each point. -/
def errAt (c : Dev nD) (k : ℕ) : Vec F S2048x512 .bf16 :=
  if k = 0 then zeroD else
    if h : (k - 1) / 2 < cfg2.N then dTile (bW V c ⟨_, h⟩) (bS V c ⟨_, h⟩) (bI V c ⟨_, h⟩) (if (k - 1) % 2 = 0 then 0 else 1)
    else zeroD

theorem errAt_zero (c : Dev nD) : errAt V c 0 = zeroD := if_pos rfl
theorem errAt_odd (c : Dev nD) (t : Fin cfg2.N) : errAt V c (2 * t.val + 1) = dTile (bW V c t) (bS V c t) (bI V c t) 0 := by
  have e : (2 * t.val + 1 - 1) / 2 = t.val := by omega
  have e2 : (2 * t.val + 1 - 1) % 2 = 0 := by omega
  unfold errAt
  rw [if_neg (by omega), dif_pos (by rw [e]; exact t.isLt), if_pos e2]
  simp only [e]
theorem errAt_even (c : Dev nD) (t : Fin cfg2.N) : errAt V c (2 * t.val + 2) = dTile (bW V c t) (bS V c t) (bI V c t) 1 := by
  have e : (2 * t.val + 2 - 1) / 2 = t.val := by omega
  have e2 : ¬ (2 * t.val + 2 - 1) % 2 = 0 := by omega
  unfold errAt
  rw [if_neg (by omega), dif_pos (by rw [e]; exact t.isLt), if_neg e2]
  simp only [e]

/-- The row of losses `k`. -/
def lossK (c : Dev nD) (k : ℕ) : FVec F S1x1x512 .f32 := lossRow (bM V c) (bR V c) (errAt V c k)

/-- What a point leaves of the losses, over what it finds. -/
def lossStep (c : Dev nD) (t : Fin cfg2.N) (y : Vec F S321x1x512 .f32) : Vec F S321x1x512 .f32 :=
  if t.val = 159 then lossPut (lossPut (lossPut y (2 * t.val) (lossK V c (2 * t.val))) (2 * t.val + 1) (lossK V c (2 * t.val + 1))) (2 * t.val + 2) (lossK V c (2 * t.val + 2))
  else lossPut (lossPut y (2 * t.val) (lossK V c (2 * t.val))) (2 * t.val + 1) (lossK V c (2 * t.val + 1))

/-! ## The proof data -/

/-- A buffer of the core at some contents. -/
abbrev anyAt (c : Dev nD) (b : Ref sig .tc) : sProp 𝕄 := iprop(∃ f : Buf (Elt F) ((c : Thread nD τ).loc b), ((c : Thread nD τ).loc b) ↦{fullShare} f)

/-- The scratch arrays. -/
abbrev sc0 : Memref sig .tc .vmem S2048x512 .bf16 := Memref.whole cc2_scratch0
abbrev sc1 : Memref sig .tc .vmem S2048x512 .bf16 := Memref.whole cc2_scratch1

/-- The staging buffers of the other calls. -/
def others (c : Dev nD) : sProp 𝕄 := iprop(anyAt (F := F) c cc0_stg0_0 ∗ anyAt (F := F) c cc0_stg0_1 ∗ anyAt (F := F) c cc0_stg1_0 ∗ anyAt (F := F) c cc0_stg2_0 ∗ anyAt (F := F) c cc0_stg2_1 ∗ anyAt (F := F) c cc1_stg0_0 ∗ anyAt (F := F) c cc1_stg0_1 ∗ anyAt (F := F) c cc1_stg1_0 ∗ anyAt (F := F) c cc1_stg1_1 ∗ anyAt (F := F) c cc1_stg2_0 ∗ anyAt (F := F) c cc1_stg2_1 ∗ anyAt (F := F) c cc1_stg3_0 ∗ anyAt (F := F) c cc1_stg3_1)

/-- Between points: the second scratch array holds the error array whose loss comes next. -/
def inv2 (c : Dev nD) (t : Fin (cfg2.N + 1)) : sProp 𝕄 :=
  iprop(others (F := F) c ∗ (∃ d, owns (c : Thread nD τ) sc0 fullShare d)
    ∗ (∃ d, ⌜t.val ≠ 0 → d = errAt V c (2 * t.val)⌝ ∗ owns (c : Thread nD τ) sc1 fullShare d))

theorem scoped_inv2 (c : Dev nD) :
    Pipeline.scopedRest (Ix := Unit) (Name := ℕ) (U := UU) (Lvl := ℕ) (Val := Elt F) spec2 c ⊢ inv2 V c 0 := by
  rw [scopedRest2_eq]; unfold inv2 others; simp only [owns_whole]
  iintro ⟨R0, R1, R2, R3, R4, R5, R6, R7, R8, R9, R10, R11, R12, S0, ⟨%f, S1⟩⟩
  isplitl [R0 R1 R2 R3 R4 R5 R6 R7 R8 R9 R10 R11 R12]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  isplitl [S0]; · iexact S0
  iexists f; isplitr; · ipureintro; intro h; exact absurd rfl h
  iexact S1

theorem inv2_scoped (c : Dev nD) (t : Fin (cfg2.N + 1)) :
    inv2 V c t ⊢ Pipeline.scopedRest (Ix := Unit) (Name := ℕ) (U := UU) (Lvl := ℕ) (Val := Elt F) spec2 c := by
  rw [scopedRest2_eq]; unfold inv2 others; simp only [owns_whole]
  iintro ⟨⟨R0, R1, R2, R3, R4, R5, R6, R7, R8, R9, R10, R11, R12⟩, S0, ⟨%f, -, S1⟩⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [S0]; · iexact S0
  iexists f; iexact S1

/-- What the body may leave in each window's buffer, over what it finds. -/
def after2 (c : Dev nD) (w : Fin cfg2.W) (t : Fin cfg2.N) (Y X : (cfg2.win w).block.Idx → Elt F (cfg2.win w).elt) : Prop :=
  match w, Y, X with
  | ⟨5, _⟩, Y, X => X = lossStep V c t Y
  | ⟨6, _⟩, _, X => X = cTile (bW V c t) (bS V c t)
  | ⟨7, _⟩, _, X => X = scTile (bW V c t) (bS V c t)
  | _, Y, X => X = Y

/-- The relational proof data of the search call. -/
def rd2 (c : Dev nD) : RDat τ (Elt F) Unit ℕ UU ℕ cfg2 c where
  A w := V c (Pipeline.arrRef spec2 w)
  after := after2 V c
  Φ := inv2 V c
  q _ := fullShare
  owed _ := 0

variable {V}

/-- An input window holds its block at every point. -/
theorem finds_in (c : Dev nD) (w : Fin cfg2.W) (hw : (cfg2.win w).isOut = false) (hk : ∀ t Y X, after2 V c w t Y X → X = Y)
    (hclip : ∀ t t' : Fin cfg2.N, (cfg2.win w).index t = (cfg2.win w).index t' → (cfg2.win w).clip (cfg2.grid.coords t) = (cfg2.win w).clip (cfg2.grid.coords t'))
    (t : Fin cfg2.N) (B : (cfg2.win w).block.Idx → Elt F (cfg2.win w).elt)
    (hf : ∀ d, (rd2 V c).fetched w t d = B) (Y) (h : (rd2 V c).Finds w t Y) : Y = B := by
  obtain ⟨d, rfl⟩ := (rd2 V c).finds_in_eq_fetched w hw hclip hk t Y h
  exact hf d

theorem finds0 (c : Dev nD) (t : Fin cfg2.N) (Y) (h : (rd2 V c).Finds 0 t Y) : Y = bM V c :=
  (finds_in c 0 rfl (fun _ _ _ h => h) (fun _ _ _ => rfl) t (bM V c) (fun _ => rfl) Y h).trans rfl
theorem finds1 (c : Dev nD) (t : Fin cfg2.N) (Y) (h : (rd2 V c).Finds 1 t Y) : Y = bR V c :=
  (finds_in c 1 rfl (fun _ _ _ h => h) (fun _ _ _ => rfl) t (bR V c) (fun _ => rfl) Y h).trans rfl
theorem finds2 (c : Dev nD) (t : Fin cfg2.N) (Y) (h : (rd2 V c).Finds 2 t Y) : Y = bW V c t :=
  finds_in c 2 rfl (fun _ _ _ h => h) (fun _ _ _ => rfl) t (bW V c t) (fun _ => rfl) Y h
theorem finds3 (c : Dev nD) (t : Fin cfg2.N) (Y) (h : (rd2 V c).Finds 3 t Y) : Y = bS V c t :=
  finds_in c 3 rfl (fun _ _ _ h => h) (fun _ _ _ => rfl) t (bS V c t) (fun _ => rfl) Y h
theorem finds4 (c : Dev nD) (t : Fin cfg2.N) (Y) (h : (rd2 V c).Finds 4 t Y) : Y = bI V c t :=
  finds_in c 4 rfl (fun _ _ _ h => h) (fun _ _ _ => rfl) t (bI V c t) (fun _ => rfl) Y h

end Cert.KernelIdeal.Main

end
-- ==== Proof.Main.Body2.lean ====
/-
  The search call's body at every grid point, over the proof data of the call, and the arrays that the call ends with.
-/
module

public import proofs.«01_k».proof.Proof.Main.RunA
public import proofs.«01_k».proof.Proof.Main.RunB
public import proofs.«01_k».proof.Proof.Main.RunC
public import proofs.«01_k».proof.Proof.Main.Data2

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (V : (c : Dev nD) → VC F c)

/-- The body at any point, on its blocks: the losses stepped, the codes and scales of the two grid values stored, the
    error arrays left in the scratch arrays. -/
theorem runAt (c : Dev nD) (t : Fin cfg2.N) (y5 : Vec F S321x1x512 .f32) (yb : Vec F S2048x512 .bf16)
    (hyb : t.val ≠ 0 → yb = errAt V c (2 * t.val)) (K : PUnit → sProp 𝕄) :
    iprop(owns (c : Thread nD τ) (st2_0 t) fullShare (bM V c) ∗ owns (c : Thread nD τ) (st2_1 t) fullShare (bR V c) ∗ owns (c : Thread nD τ) (st2_2 t) fullShare (bW V c t) ∗ owns (c : Thread nD τ) (st2_3 t) fullShare (bS V c t) ∗ owns (c : Thread nD τ) (st2_4 t) fullShare (bI V c t) ∗ owns (c : Thread nD τ) (st2_5 t) fullShare y5 ∗ (∃ d, owns (c : Thread nD τ) (st2_6 t) fullShare d) ∗ (∃ d, owns (c : Thread nD τ) (st2_7 t) fullShare d) ∗ (∃ d, owns (c : Thread nD τ) sc0 fullShare d) ∗ owns (c : Thread nD τ) sc1 fullShare yb
        ∗ (iprop(owns (c : Thread nD τ) (st2_0 t) fullShare (bM V c) ∗ owns (c : Thread nD τ) (st2_1 t) fullShare (bR V c) ∗ owns (c : Thread nD τ) (st2_2 t) fullShare (bW V c t) ∗ owns (c : Thread nD τ) (st2_3 t) fullShare (bS V c t) ∗ owns (c : Thread nD τ) (st2_4 t) fullShare (bI V c t) ∗ owns (c : Thread nD τ) (st2_5 t) fullShare (lossStep V c t y5) ∗ owns (c : Thread nD τ) (st2_6 t) fullShare (cTile (bW V c t) (bS V c t)) ∗ owns (c : Thread nD τ) (st2_7 t) fullShare (scTile (bW V c t) (bS V c t))
            ∗ owns (c : Thread nD τ) sc0 fullShare (errAt V c (2 * t.val + 1)) ∗ owns (c : Thread nD τ) sc1 fullShare (errAt V c (2 * t.val + 2))) -∗ K ⟨⟩))
      ⊢ wp frame (wpE (defs₀ (F := F)) Variants.none c none) Set.univ (bodyAt2 t) K := by
  rw [errAt_odd, errAt_even]
  by_cases h0 : t.val = 0
  · have h1 : t.val ≠ 159 := by omega
    have hs : lossStep V c t y5 = lossPut (lossPut y5 (2 * t.val) (lossRow (bM V c) (bR V c) zeroD)) (2 * t.val + 1) (lossRow (bM V c) (bR V c) (dTile (bW V c t) (bS V c t) (bI V c t) 0)) := by
      unfold lossStep lossK
      rw [if_neg h1, errAt_odd, show errAt V c (2 * t.val) = zeroD by rw [h0]; rfl]
    rw [hs]
    iintro ⟨H0, H1, H2, H3, H4, H5, H6, H7, S0, S1, Hk⟩
    iapply (runA c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) sc0 (Memref.isWhole_whole _) sc1 (Memref.isWhole_whole _) ((condA_iff t).mpr h0) (fun h => h1 ((cond2_iff t).mp h)) (2 * t.val) (off1_eq t) (off2_eq t) (bM V c) (bR V c) (bW V c t) (bS V c t) (bI V c t) y5 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexists _; iexact S1
    iexact Hk
  · have hyb := hyb h0
    subst hyb
    by_cases h1 : t.val = 159
    · have hs : lossStep V c t y5 = lossPut (lossPut (lossPut y5 (2 * t.val) (lossRow (bM V c) (bR V c) (errAt V c (2 * t.val)))) (2 * t.val + 1) (lossRow (bM V c) (bR V c) (dTile (bW V c t) (bS V c t) (bI V c t) 0)))
          (2 * t.val + 2) (lossRow (bM V c) (bR V c) (dTile (bW V c t) (bS V c t) (bI V c t) 1)) := by
        unfold lossStep lossK
        rw [if_pos h1, errAt_odd, errAt_even]
      rw [hs]
      exact runC c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) sc0 (Memref.isWhole_whole _) sc1 (Memref.isWhole_whole _) (fun h => h0 ((condA_iff t).mp h)) ((cond2_iff t).mpr h1) (2 * t.val) (off1_eq t) (off2_eq t) (off3_eq t) (bM V c) (bR V c) (bW V c t) (bS V c t) (bI V c t) y5 (errAt V c (2 * t.val)) Set.univ K
    · have hs : lossStep V c t y5 = lossPut (lossPut y5 (2 * t.val) (lossRow (bM V c) (bR V c) (errAt V c (2 * t.val)))) (2 * t.val + 1) (lossRow (bM V c) (bR V c) (dTile (bW V c t) (bS V c t) (bI V c t) 0)) := by
        unfold lossStep lossK
        rw [if_neg h1, errAt_odd]
      rw [hs]
      exact runB c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) sc0 (Memref.isWhole_whole _) sc1 (Memref.isWhole_whole _) (fun h => h0 ((condA_iff t).mp h)) (fun h => h1 ((cond2_iff t).mp h)) (2 * t.val) (off1_eq t) (off2_eq t) (bM V c) (bR V c) (bW V c t) (bS V c t) (bI V c t) y5 (errAt V c (2 * t.val)) Set.univ K

/-- The body table's row at point `t`'s slots is the body as `bodyAt2` spells it. -/
theorem defs₀_row2 (t : Fin cfg2.N) : defs₀ (F := F) .tc cfg2.body (cfg2.bodyArgs t (cfg2.slots t)) = bodyAt2 t := by
  unfold defs₀; rw [Defs.onTc_tc]

set_option maxHeartbeats 2000000 in
/-- The body obligation of the search call. -/
theorem body2 (c : Dev nD) : (rd2 V c).BodyObligation (defs₀ (F := F)) 𝒱₀ () Set.univ := fun t Y hY => by
  rw [bigSep_W2, bigSep_W2, defs₀_row2,
    show (rd2 V c).owesAt () t.succ = (rd2 V c).owesAt () t.castSucc from rfl,
    show (rd2 V c).Φ t.succ = inv2 V c t.succ from rfl, show (rd2 V c).Φ t.castSucc = inv2 V c t.castSucc from rfl,
    finds0 c t _ (hY 0), finds1 c t _ (hY 1), finds2 c t _ (hY 2), finds3 c t _ (hY 3), finds4 c t _ (hY 4)]
  unfold inv2
  iintro ⟨⟨HR, S0, ⟨%yb, %hyb, S1⟩⟩, Ho, H0, H1, H2, H3, H4, H5, H6, H7⟩
  iapply (runAt V c t (Y 5) yb hyb)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  isplitl [S1]; · iexact S1
  iintro ⟨H0, H1, H2, H3, H4, H5, H6, H7, S0, S1⟩
  isplitl [HR S0 S1]
  · isplitl [HR]; · iexact HR
    isplitl [S0]; · iexists _; iexact S0
    iexists _; isplitr; swap; · iexact S1
    ipureintro; intro _
    rw [Fin.val_succ, Nat.mul_add]
  isplitl [Ho]; · iexact Ho
  isplitl [H0]
  · iexists _; isplitr; swap; (· iexact H0); ipureintro; exact (rfl : _ = _)
  isplitl [H1]
  · iexists _; isplitr; swap; (· iexact H1); ipureintro; exact (rfl : _ = _)
  isplitl [H2]
  · iexists _; isplitr; swap; (· iexact H2); ipureintro; exact (rfl : _ = _)
  isplitl [H3]
  · iexists _; isplitr; swap; (· iexact H3); ipureintro; exact (rfl : _ = _)
  isplitl [H4]
  · iexists _; isplitr; swap; (· iexact H4); ipureintro; exact (rfl : _ = _)
  isplitl [H5]
  · iexists _; isplitr; swap; (· iexact H5); ipureintro; exact (rfl : _ = _)
  isplitl [H6]
  · iexists _; isplitr; swap; (· iexact H6); ipureintro; exact (rfl : _ = _)
  iexists _; isplitr; swap; (· iexact H7); ipureintro; exact (rfl : _ = _)

end Cert.KernelIdeal.Main

end
-- ==== Proof.Main.Arr2.lean ====
/-
  The arrays that the search call ends with, as functions of the arrays it finds, and the call's record over the thread
  state "every unscoped buffer at a valuation".
-/
module

public import proofs.«01_k».proof.Proof.Main.Body2
public import Idealize.ShloMosaic.Lib.Pipeline.ValueKit
public import Idealize.ShloMosaic.Lib.Pipeline.ArrRel

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

section
variable {cfg : Cfg sig Λ₀} {c : Dev nD} {rd : RDat τ (Elt F) Unit ℕ UU ℕ cfg c}

/-- An output array whose written-back blocks cover it, and each of which is read off one array `T` whatever the body may
    have left, ends as `T`. -/
theorem arr_eq {w : Fin cfg.W} {G : Buf (Elt F) ((cfg.win w).arr.view.loc (c.tc : Thread nD τ))} (hG : rd.ArrAt w cfg.N G)
    (T : Buf (Elt F) ((cfg.win w).arr.view.loc (c.tc : Thread nD τ))) (hcov : (cfg.win w).Covers) (harr : (cfg.win w).arr.IsWhole)
    (h : ∀ t X, (cfg.win w).flush t = true → rd.Leaves w t X →
      (cfg.win w).cut (cfg.grid.coords t) X = ((cfg.win w).blk t).view.read (Elt F) T) : G = T := by
  obtain ⟨X, hX, hA⟩ := hG.exists_exact
  let af : (w : Fin cfg.W) → Fin cfg.N → (cfg.win w).block.Idx → Elt F (cfg.win w).elt :=
    Function.update (fun _ _ _ => Classical.arbitrary _) w X
  have haf : af w = X := Function.update_self ..
  rw [hA af fun u _ _ => by rw [haf]]
  refine Dat.arrAt_eq_of_cover _ w T (fun t hf => ?_) (fun i => hcov.cover _ harr i)
  refine Eq.trans ?_ (h t (X t) hf (hX t t.isLt hf))
  show (cfg.win w).cut (cfg.grid.coords t) (af w t) = _
  rw [haf]

end

variable (V : (c : Dev nD) → VC F c)

/-- The losses the call ends with: row `k` is the losses of the `k`-th error array. -/
def lossArr (c : Dev nD) : Vec F S321x1x512 .f32 := fun j => lossK V c (j 0).val (ValueIdx.ix3 (0 : Fin 1) (0 : Fin 1) (j 2))

/-- The point that writes grid value `n` of tile `m`. -/
def pointOf (n m : ℕ) : Fin cfg2.N := ⟨(m * 10 + n / 2) % 160, by rw [show cfg2.N = 160 from N_2]; omega⟩

/-- The codes the call ends with. -/
def codesArr (c : Dev nD) : Vec F S20x8192x1024 .i8 := fun j =>
  cTile (bW V c (pointOf (j 0).val ((j 1).val / 512)))
    (bS V c (pointOf (j 0).val ((j 1).val / 512)))
    (ValueIdx.ix3 (⟨(j 0).val % 2, Nat.mod_lt _ (by decide)⟩ : Fin 2) (⟨(j 1).val % 512, Nat.mod_lt _ (by decide)⟩ : Fin 512) (j 2))

/-- The scales the call ends with. -/
def scalesArr (c : Dev nD) : Vec F S20x16x16x512 .f32 := fun j =>
  scTile (bW V c (pointOf (j 0).val (j 1).val)) (bS V c (pointOf (j 0).val (j 1).val))
    (ValueIdx.ix4 (⟨(j 0).val % 2, Nat.mod_lt _ (by decide)⟩ : Fin 2) (0 : Fin 1) (j 2) (j 3))

theorem lossPut_of (y : Vec F S321x1x512 .f32) (n : ℕ) (c : Dev nD) (j : S321x1x512.Idx)
    (h : (j 0).val ≠ n → y j = lossArr V c j) : lossPut y n (lossK V c n) j = lossArr V c j := by
  unfold lossPut
  split
  · rename_i e; unfold lossArr; rw [e]
  · rename_i e; exact h e

theorem lossStep_lt (c : Dev nD) (t : Fin cfg2.N) (y : Vec F S321x1x512 .f32) (hy : ∀ j, (j 0).val < 2 * t.val → y j = lossArr V c j)
    (j : S321x1x512.Idx) (hj : (j 0).val < 2 * t.val + 2 ∨ t.val = 159) : lossStep V c t y j = lossArr V c j := by
  have hb := (j 0).isLt
  unfold lossStep
  split
  · refine lossPut_of V _ _ c j fun h2 => lossPut_of V _ _ c j fun h1 => lossPut_of V _ _ c j fun h0 => hy j ?_
    have : (j 0).val < 321 := (j 0).isLt
    omega
  · refine lossPut_of V _ _ c j fun h1 => lossPut_of V _ _ c j fun h0 => hy j ?_
    omega

theorem finds5 (c : Dev nD) : ∀ (n : ℕ) (t : Fin cfg2.N), t.val = n → ∀ Y, (rd2 V c).Finds 5 t Y →
    ∀ j : S321x1x512.Idx, (j 0).val < 2 * t.val → Y j = lossArr V c j
  | 0, t, ht, Y, _, j, hj => absurd hj (by omega)
  | n + 1, t, ht, Y, hY, j, hj => by
    have hf : (cfg2.win 5).fetch t = false := (cfg2.win 5).fetch_out rfl t
    rcases (rd2 V c).finds_of_pos hf (by omega) Y |>.mp hY with h | ⟨Y', hY', h⟩
    · have := (flush2_5 _).mp h
      have h2 : t.val < 160 := Nat.lt_of_lt_of_eq t.isLt N_2
      have h3 : (t.val - 1) % 160 = 159 := this
      omega
    · have h : Y = lossStep V c ⟨t.val - 1, Nat.lt_of_le_of_lt (Nat.sub_le _ _) t.isLt⟩ Y' := h
      rw [h]
      refine lossStep_lt V c _ Y' (finds5 c n _ (by show t.val - 1 = n; omega) Y' hY') j (Or.inl ?_)
      show (j 0).val < 2 * (t.val - 1) + 2
      omega

theorem idx5 (t : Fin cfg2.N) : (cfg2.win 5).index t = ![0, 0, 0] :=
  (by decide +kernel : ∀ t : Fin grid2.N, win2_5.index t = ![0, 0, 0]) t

theorem covers5 : (cfg2.win 5).Covers := (by decide +kernel : win2_5.Covers)
theorem covers6 : (cfg2.win 6).Covers := (by decide +kernel : win2_6.Covers)
theorem covers7 : (cfg2.win 7).Covers := (by decide +kernel : win2_7.Covers)

theorem fin5 (c : Dev nD) (G) (hG : (rd2 V c).ArrAt 5 cfg2.N G) : G = lossArr V c := by
  refine arr_eq hG (lossArr V c) covers5 (Memref.isWhole_whole _) fun t X hf ⟨Y, hY, hX⟩ => ?_
  have ht : t.val = 159 := by
    have := (flush2_5 t).mp hf
    have h2 : t.val < 160 := Nat.lt_of_lt_of_eq t.isLt N_2
    omega
  have hX : X = lossStep V c t Y := hX
  have hX : X = lossArr V c := by rw [hX]; exact funext fun j => lossStep_lt V c t Y (finds5 V c _ t rfl Y hY) j (Or.inr ht)
  rw [hX]
  refine funext fun y => congrArg (lossArr V c) (funext fun a => Fin.ext ?_)
  refine Eq.trans ?_ ((cfg2.win 5).rect_emb_val t y a).symm
  have : (cfg2.win 5).index t a = 0 := by rw [idx5]; fin_cases a <;> rfl
  rw [this, Nat.zero_mul, Nat.zero_add]

/-- The block indices of the codes and of the scales. -/
theorem idx6 (t : Fin cfg2.N) : (cfg2.win 6).index t = ![t.val % 10, t.val / 10, 0] :=
  (by decide +kernel : ∀ t : Fin grid2.N, win2_6.index t = ![t.val % 10, t.val / 10, 0]) t
theorem idx7 (t : Fin cfg2.N) : (cfg2.win 7).index t = ![t.val % 10, t.val / 10, 0, 0] :=
  (by decide +kernel : ∀ t : Fin grid2.N, win2_7.index t = ![t.val % 10, t.val / 10, 0, 0]) t

theorem codesArr_at (c : Dev nD) (t : Fin cfg2.N) (y : S2x512x1024.Idx) (j : S20x8192x1024.Idx)
    (e0 : (j 0).val = t.val % 10 * 2 + (y 0).val) (e1 : (j 1).val = t.val / 10 * 512 + (y 1).val) (e2 : (j 2).val = (y 2).val) :
    cTile (bW V c t) (bS V c t) y = codesArr V c j := by
  have ht : t.val < 160 := Nat.lt_of_lt_of_eq t.isLt N_2
  have b0 : (y 0).val < 2 := (y 0).isLt
  have b1 : (y 1).val < 512 := (y 1).isLt
  have hp : pointOf (j 0).val ((j 1).val / 512) = t := by
    apply Fin.ext; unfold pointOf; simp only [e0, e1]; omega
  unfold codesArr
  rw [hp]
  refine congrArg _ (funext fun a => Fin.ext ?_)
  fin_cases a
  · show (y 0).val = (j 0).val % 2
    rw [e0]; omega
  · show (y 1).val = (j 1).val % 512
    rw [e1]; omega
  · exact e2.symm

theorem fin6 (c : Dev nD) (G) (hG : (rd2 V c).ArrAt 6 cfg2.N G) : G = codesArr V c := by
  refine arr_eq hG (codesArr V c) covers6 (Memref.isWhole_whole _) fun t X hf ⟨Y, hY, hX⟩ => ?_
  have hX : X = cTile (bW V c t) (bS V c t) := hX
  have key := codesArr_at V c t
  rw [← hX] at key
  clear hX
  generalize codesArr V c = T at key ⊢
  refine funext fun y => key y (((cfg2.win 6).blk t).view.emb y) ?_ ?_ ?_
  · refine ((cfg2.win 6).rect_emb_val t y 0).trans ?_; rw [idx6]; rfl
  · refine ((cfg2.win 6).rect_emb_val t y 1).trans ?_; rw [idx6]; rfl
  · refine ((cfg2.win 6).rect_emb_val t y 2).trans ?_; rw [idx6]; exact Nat.zero_add _

theorem scalesArr_at (c : Dev nD) (t : Fin cfg2.N) (y : S2x1x16x512.Idx) (j : S20x16x16x512.Idx)
    (e0 : (j 0).val = t.val % 10 * 2 + (y 0).val) (e1 : (j 1).val = t.val / 10 * 1 + (y 1).val) (e2 : (j 2).val = (y 2).val)
    (e3 : (j 3).val = (y 3).val) : scTile (bW V c t) (bS V c t) y = scalesArr V c j := by
  have ht : t.val < 160 := Nat.lt_of_lt_of_eq t.isLt N_2
  have b0 : (y 0).val < 2 := (y 0).isLt
  have b1 : (y 1).val < 1 := (y 1).isLt
  have hp : pointOf (j 0).val (j 1).val = t := by
    apply Fin.ext; unfold pointOf; simp only [e0, e1]; omega
  unfold scalesArr
  rw [hp]
  refine congrArg _ ((funext fun a => Fin.ext ?_))
  fin_cases a
  · show (y 0).val = (j 0).val % 2
    rw [e0]; omega
  · show (y 1).val = 0
    omega
  · exact e2.symm
  · exact e3.symm

theorem fin7 (c : Dev nD) (G) (hG : (rd2 V c).ArrAt 7 cfg2.N G) : G = scalesArr V c := by
  refine arr_eq hG (scalesArr V c) covers7 (Memref.isWhole_whole _) fun t X hf ⟨Y, hY, hX⟩ => ?_
  have hX : X = scTile (bW V c t) (bS V c t) := hX
  have key := scalesArr_at V c t
  rw [← hX] at key
  clear hX
  generalize scalesArr V c = T at key ⊢
  refine funext fun y => key y (((cfg2.win 7).blk t).view.emb y) ?_ ?_ ?_ ?_
  · refine ((cfg2.win 7).rect_emb_val t y 0).trans ?_; rw [idx7]; rfl
  · refine ((cfg2.win 7).rect_emb_val t y 1).trans ?_; rw [idx7]; rfl
  · refine ((cfg2.win 7).rect_emb_val t y 2).trans ?_; rw [idx7]; exact Nat.zero_add _
  · refine ((cfg2.win 7).rect_emb_val t y 3).trans ?_; rw [idx7]; exact Nat.zero_add _

/-! ## The record -/

/-- The family of proof data with the search call's. -/
def fam2 : RFam F
  | ⟨0, _⟩ => fun c => junkR c
  | ⟨1, _⟩ => fun c => junkR c
  | ⟨2, _⟩ => fun c => rd2 V c

/-- The search call, from every unscoped buffer at `V`, to any `V'` that has the three results and is else `V`. -/
def reg2 (V' : (c : Dev nD) → VC F c) (h0 : ∀ c, V' c main_v21_0 = lossArr V c) (h1 : ∀ c, V' c main_v21_1 = codesArr V c)
    (h2 : ∀ c, V' c main_v21_2 = scalesArr V c)
    (hr : ∀ c b, b ∉ ([main_v21_0, main_v21_1, main_v21_2] : List (Ref sig .tc)) → V' c b = V c b) :
    RDat.RegionSeg (pcfgs (F := F)) adm (fam2 V) () (defs₀ (F := F)) 𝒱₀ L lv 2 :=
  regR 2 launch2.to₀ (fam2 V) V V' (fun c => by
      unfold Pipeline.prefHeld; rw [show (Finset.univ : Finset (Fin 0)) = ∅ from rfl, BI.bigSep_empty])
    (fun _ _ => rfl) (fun c w _ => (Pipeline.shareOf_eq_fullShare_of_injective _ launch2.win.arr_inj w).symm) (fun _ _ => rfl) (fun _ _ => rfl) (body2 V) (scoped_inv2 V) (fun c => inv2_scoped V c _)
    (fun c w G hG => by
      have hin : ∀ w : Fin 8, (cfg2.win w).isOut = false → Pipeline.arrRef spec2 w ∉ ([main_v21_0, main_v21_1, main_v21_2] : List (Ref sig .tc)) := by decide
      by_cases hw : (cfg2.win w).isOut = false
      · have hG : (rd2 V c).ArrAt w cfg2.N G := hG
        rw [(rd2 V c).ArrAt_in w hw] at hG
        exact hG.trans (hr c _ (hin w hw)).symm
      · have hw : w = 5 ∨ w = 6 ∨ w = 7 := (by decide : ∀ w : Fin 8, ¬ (cfg2.win w).isOut = false → w = 5 ∨ w = 6 ∨ w = 7) w hw
        rcases hw with rfl | rfl | rfl
        · exact (fin5 V c G hG).trans (h0 c).symm
        · exact (fin6 V c G hG).trans (h1 c).symm
        · exact (fin7 V c G hG).trans (h2 c).symm)
    (fun c b hb => hr c b fun h => hb (by
      have : ∀ b ∈ ([main_v21_0, main_v21_1, main_v21_2] : List (Ref sig .tc)), b ∈ Finset.univ.image (Pipeline.arrRef spec2) := by decide
      exact this b h))

end Cert.KernelIdeal.Main

end
-- ==== Proof.Main.Reg0.lean ====
/-
  The first call, which multiplies the activations with themselves: its body, its proof data, the array it ends with, its
  record.
-/
module

public import proofs.«01_k».proof.Proof.Main.Arr2

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-- The rectangle that is a whole two-dimensional array. -/
theorem ld_full {n0 n1 : ℕ} {e : EltTy} (X : (⟨2, ![n0, n1]⟩ : Shape).Idx → Elt F e)
    (h : ∀ a, (![0, 0] : Fin 2 → ℕ) a + (⟨2, ![n0, n1]⟩ : Shape).size a ≤ (⟨2, ![n0, n1]⟩ : Shape).size a) :
    View.ld X (Rect.unit (s := ⟨2, ![n0, n1]⟩) ![0, 0] (⟨2, ![n0, n1]⟩ : Shape).size h) = X :=
  funext fun y => congrArg X (funext fun a => Fin.ext (by
    show (![0, 0] : Fin 2 → ℕ) a + 1 * (y a).val = (y a).val
    fin_cases a <;> simp))

/-- One store of the whole array leaves the stored value. -/
theorem canon_full {n0 n1 : ℕ} {e : EltTy} (X : (⟨2, ![n0, n1]⟩ : Shape).Idx → Elt F e)
    (h : ∀ a, (![0, 0] : Fin 2 → ℕ) a + (⟨2, ![n0, n1]⟩ : Shape).size a ≤ (⟨2, ![n0, n1]⟩ : Shape).size a) :
    View.canon (Val := Elt F) [⟨Rect.unit (s := ⟨2, ![n0, n1]⟩) ![0, 0] (⟨2, ![n0, n1]⟩ : Shape).size h, X⟩] = X := by
  funext y
  have : (Rect.unit (s := ⟨2, ![n0, n1]⟩) ![0, 0] (⟨2, ![n0, n1]⟩ : Shape).size h).emb y = y := funext fun a => Fin.ext (by
    show (![0, 0] : Fin 2 → ℕ) a + 1 * (y a).val = (y a).val
    fin_cases a <;> simp)
  exact (congrArg _ this.symm).trans (View.canon_cons_emb ..)

theorem read_full {n0 n1 : ℕ} {e : EltTy} (v : View sig .tc .vmem ⟨2, ![n0, n1]⟩ e) (f : v.ty.Contents (Elt F))
    (X : (⟨2, ![n0, n1]⟩ : Shape).Idx → Elt F e)
    (h : ∀ a, (![0, 0] : Fin 2 → ℕ) a + (⟨2, ![n0, n1]⟩ : Shape).size a ≤ (⟨2, ![n0, n1]⟩ : Shape).size a) (L)
    (hL : L = [⟨Rect.unit (s := ⟨2, ![n0, n1]⟩) ![0, 0] (⟨2, ![n0, n1]⟩ : Shape).size h, X⟩]) :
    v.read (Elt F) (v.writes (Elt F) f L) = X := by
  subst hL
  refine (View.read_writes_eq_canon v f _ fun y => ⟨_, List.mem_singleton_self _, ?_⟩).trans (canon_full X h)
  refine (Rect.mem_set_unit (inb := h)).mpr fun a => ⟨?_, ?_⟩
  · fin_cases a <;> exact Nat.zero_le _
  · have := (y a).isLt
    fin_cases a <;> exact lt_of_lt_of_eq this (Nat.zero_add _).symm

variable (V : (c : Dev nD) → VC F c)

/-- Window `w`'s block at point `t`, of the arrays at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The columns of a point, and the activations. -/
def bX (c : Dev nD) (t : Fin cfg0.N) : Vec F S4096x256 .bf16 := iblk0 V c 0 t
def bXX (c : Dev nD) : Vec F S4096x2048 .bf16 := iblk0 V c 1 ⟨0, by rw [show cfg0.N = 8 from N_0]; decide⟩

set_option maxHeartbeats 4000000 in
theorem run0 (c : Dev nD) (i : grid0.Coords) (arg1 : Memref sig .tc .vmem S4096x256 .bf16) (harg1 : arg1.IsWhole) (arg2 : Memref sig .tc .vmem S4096x2048 .bf16) (harg2 : arg2.IsWhole) (arg3 : Memref sig .tc .vmem S256x2048 .f32) (harg3 : arg3.IsWhole)
    (x0 : Vec F S4096x256 .bf16) (x1 : Vec F S4096x2048 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0_gram i arg1 harg1 arg2 harg2 arg3 harg3) K := by
  simp only [cc0_gram_eq_skeleton]; unfold cc0_gram_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine (read_full arg3.view _ _ inb_S256x2048_S256x2048_0_0 _ rfl).trans ?_
  exact congrArg₂ k0_pay1 ((congrFun (readAt_unread_ld harg1 x0) _).trans (ld_full x0 _)) ((congrFun (readAt_unread_ld harg2 x1) _).trans (ld_full x1 _))

/-- What the body may leave in each window's buffer. -/
def after0 (c : Dev nD) (w : Fin cfg0.W) (t : Fin cfg0.N) (Y X : (cfg0.win w).block.Idx → Elt F (cfg0.win w).elt) : Prop :=
  match w, Y, X with
  | ⟨2, _⟩, _, X => X = k0_pay1 (bX V c t) (bXX V c)
  | _, Y, X => X = Y

/-- The relational proof data of the first call. -/
def rd0 (c : Dev nD) : RDat τ (Elt F) Unit ℕ UU ℕ cfg0 c where
  A w := V c (Pipeline.arrRef spec0 w)
  after := after0 V c
  Φ _ := Pipeline.scopedRest (Ix := Unit) (Name := ℕ) (U := UU) (Lvl := ℕ) (Val := Elt F) spec0 c
  q w := Pipeline.shareOf spec0 w
  owed _ := 0

theorem finds0_in (c : Dev nD) (w : Fin cfg0.W) (hw : (cfg0.win w).isOut = false) (hk : ∀ t Y X, after0 V c w t Y X → X = Y)
    (hclip : ∀ t t' : Fin cfg0.N, (cfg0.win w).index t = (cfg0.win w).index t' → (cfg0.win w).clip (cfg0.grid.coords t) = (cfg0.win w).clip (cfg0.grid.coords t'))
    (t : Fin cfg0.N) (B : (cfg0.win w).block.Idx → Elt F (cfg0.win w).elt)
    (hf : ∀ d, (rd0 V c).fetched w t d = B) (Y) (h : (rd0 V c).Finds w t Y) : Y = B := by
  obtain ⟨d, rfl⟩ := (rd0 V c).finds_in_eq_fetched w hw hclip hk t Y h
  exact hf d

theorem finds0_0 (c : Dev nD) (t : Fin cfg0.N) (Y) (h : (rd0 V c).Finds 0 t Y) : Y = bX V c t :=
  finds0_in V c 0 rfl (fun _ _ _ h => h) (fun _ _ _ => rfl) t (bX V c t) (fun _ => rfl) Y h
theorem finds0_1 (c : Dev nD) (t : Fin cfg0.N) (Y) (h : (rd0 V c).Finds 1 t Y) : Y = bXX V c :=
  finds0_in V c 1 rfl (fun _ _ _ h => h) (fun _ _ _ => rfl) t (bXX V c) (fun _ => rfl) Y h

theorem defs₀_row0 (t : Fin cfg0.N) : defs₀ (F := F) .tc cfg0.body (cfg0.bodyArgs t (cfg0.slots t)) = bodyAt0 t := by
  unfold defs₀; rw [Defs.onTc_tc]

set_option maxHeartbeats 2000000 in
/-- The body obligation of the first call. -/
theorem body0 (c : Dev nD) : (rd0 V c).BodyObligation (defs₀ (F := F)) 𝒱₀ () Set.univ := fun t Y hY => by
  rw [bigSep_W0, bigSep_W0, defs₀_row0,
    show (rd0 V c).owesAt () t.succ = (rd0 V c).owesAt () t.castSucc from rfl,
    show (rd0 V c).Φ t.succ = (rd0 V c).Φ t.castSucc from rfl,
    finds0_0 V c t _ (hY 0), finds0_1 V c t _ (hY 1)]
  iintro ⟨HR, Ho, H0, H1, H2⟩
  iapply (run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (bX V c t) (bXX V c))
  isplitl [H0]; · iexact H0
  isplitl [H1]; · iexact H1
  isplitl [H2]; · iexists _; iexact H2
  iintro ⟨H0, H1, H2⟩
  isplitl [HR]; · iexact HR
  isplitl [Ho]; · iexact Ho
  isplitl [H0]
  · iexists _; isplitr; swap; (· iexact H0); ipureintro; exact (rfl : _ = _)
  isplitl [H1]
  · iexists _; isplitr; swap; (· iexact H1); ipureintro; exact (rfl : _ = _)
  iexists _; isplitr; swap; (· iexact H2); ipureintro; exact (rfl : _ = _)

/-- The matrix of products the call ends with. -/
def gArr (c : Dev nD) : Vec F S2048x2048 .f32 := fun j =>
  k0_pay1 (bX V c ⟨(j 0).val / 256 % 8, by rw [show cfg0.N = 8 from N_0]; omega⟩) (bXX V c)
    (ValueIdx.ix2 (⟨(j 0).val % 256, Nat.mod_lt _ (by decide)⟩ : Fin 256) (j 1))

theorem gArr_at (c : Dev nD) (t : Fin cfg0.N) (y : S256x2048.Idx) (j : S2048x2048.Idx)
    (e0 : (j 0).val = t.val * 256 + (y 0).val) (e1 : (j 1).val = (y 1).val) :
    k0_pay1 (bX V c t) (bXX V c) y = gArr V c j := by
  have ht : t.val < 8 := Nat.lt_of_lt_of_eq t.isLt N_0
  have b0 : (y 0).val < 256 := (y 0).isLt
  have hp : (⟨(j 0).val / 256 % 8, by rw [show cfg0.N = 8 from N_0]; omega⟩ : Fin cfg0.N) = t := by
    apply Fin.ext; simp only [e0]; omega
  unfold gArr
  rw [hp]
  refine congrArg _ (funext fun a => Fin.ext ?_)
  fin_cases a
  · show (y 0).val = (j 0).val % 256
    rw [e0]; omega
  · exact e1.symm

theorem idx0_2 (t : Fin cfg0.N) : (cfg0.win 2).index t = ![t.val, 0] :=
  (by decide +kernel : ∀ t : Fin grid0.N, win0_2.index t = ![t.val, 0]) t

theorem covers0_2 : (cfg0.win 2).Covers := (by decide +kernel : win0_2.Covers)

theorem fin0_2 (c : Dev nD) (G) (hG : (rd0 V c).ArrAt 2 cfg0.N G) : G = gArr V c := by
  refine arr_eq hG (gArr V c) covers0_2 (Memref.isWhole_whole _) fun t X hf ⟨Y, hY, hX⟩ => ?_
  have hX : X = k0_pay1 (bX V c t) (bXX V c) := hX
  have key := gArr_at V c t
  rw [← hX] at key
  clear hX
  generalize gArr V c = T at key ⊢
  refine funext fun y => key y (((cfg0.win 2).blk t).view.emb y) ?_ ?_
  · refine ((cfg0.win 2).rect_emb_val t y 0).trans ?_; rw [idx0_2]; rfl
  · refine ((cfg0.win 2).rect_emb_val t y 1).trans ?_; rw [idx0_2]; exact Nat.zero_add _

/-- The family of proof data with the first call's. -/
def fam0 : RFam F
  | ⟨0, _⟩ => fun c => rd0 V c
  | ⟨1, _⟩ => fun c => junkR c
  | ⟨2, _⟩ => fun c => junkR c

/-- The first call, from every unscoped buffer at `V`, to any `V'` that has the result and is else `V`. -/
def reg0 (V' : (c : Dev nD) → VC F c) (h0 : ∀ c, V' c main_v1 = gArr V c)
    (hr : ∀ c b, b ∉ ([main_v1] : List (Ref sig .tc)) → V' c b = V c b) :
    RDat.RegionSeg (pcfgs (F := F)) adm (fam0 V) () (defs₀ (F := F)) 𝒱₀ L lv 0 :=
  regR 0 launch₀0 (fam0 V) V V' (fun c => by
      unfold Pipeline.prefHeld; rw [show (Finset.univ : Finset (Fin 0)) = ∅ from rfl, BI.bigSep_empty])
    (fun _ _ => rfl) (fun c w _ => rfl) (fun _ _ => rfl) (fun _ _ => rfl) (body0 V) (fun c => Laws.entails_refl _) (fun c => Laws.entails_refl _)
    (fun c w G hG => by
      have hin : ∀ w : Fin 3, (cfg0.win w).isOut = false → Pipeline.arrRef spec0 w ∉ ([main_v1] : List (Ref sig .tc)) := by decide
      by_cases hw : (cfg0.win w).isOut = false
      · have hG : (rd0 V c).ArrAt w cfg0.N G := hG
        rw [(rd0 V c).ArrAt_in w hw] at hG
        exact hG.trans (hr c _ (hin w hw)).symm
      · have hw : w = 2 := (by decide : ∀ w : Fin 3, ¬ (cfg0.win w).isOut = false → w = 2) w hw
        subst hw
        exact (fin0_2 V c G hG).trans (h0 c).symm)
    (fun c b hb => hr c b fun h => hb (by
      have : ∀ b ∈ ([main_v1] : List (Ref sig .tc)), b ∈ Finset.univ.image (Pipeline.arrRef spec0) := by decide
      exact this b h))

end Cert.KernelIdeal.Main

end
-- ==== Proof.Main.Reg1.lean ====
/-
  The second call, which lays out the matrix of the quadratic form: its body, its proof data, the arrays it ends with, its
  record.
-/
module

public import proofs.«01_k».proof.Proof.Main.Reg0

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

set_option maxHeartbeats 4000000 in
theorem run1A (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x128 .f32) (harg5 : arg5.IsWhole)
    (hc1 :  k1_cond1 i = 1#1) (hc2 : ¬ k1_cond2 i = 1#1) (hc3 : ¬ k1_cond3 i = 1#1)
    (x0 x1 : Vec F S256x256 .f32) (y3 : Vec F S256x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare y3
        ∗ (iprop(owns (c : Thread nD τ) arg2 fullShare x0 ∗ owns (c : Thread nD τ) arg3 fullShare x1 ∗ owns (c : Thread nD τ) arg4 fullShare (k1_pay1 x0) ∗ owns (c : Thread nD τ) arg5 fullShare y3) -∗ K ⟨⟩))
      ⊢ wp frame (wpE (defs₀ (F := F)) Variants.none c none) E (cc1_gram_split i arg2 harg2 arg3 harg3 arg4 harg4 arg5 harg5) K := by
  simp only [cc1_gram_split_eq_skeleton]; unfold cc1_gram_split_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact (read_full arg4.view _ _ inb_S256x256_S256x256_0_0 _ rfl).trans (congrArg k1_pay1 ((congrFun (readAt_unread_ld harg2 x0) _).trans (ld_full x0 _)))
  iexists _; isplitr; · ipureintro; exact harg5.read_unread _
  iexact H3

set_option maxHeartbeats 4000000 in
theorem run1B (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x128 .f32) (harg5 : arg5.IsWhole)
    (hc1 : ¬ k1_cond1 i = 1#1) (hc2 :  k1_cond2 i = 1#1) (hc3 : ¬ k1_cond3 i = 1#1)
    (x0 x1 : Vec F S256x256 .f32) (y3 : Vec F S256x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare y3
        ∗ (iprop(owns (c : Thread nD τ) arg2 fullShare x0 ∗ owns (c : Thread nD τ) arg3 fullShare x1 ∗ owns (c : Thread nD τ) arg4 fullShare (k1_pay2 x1) ∗ owns (c : Thread nD τ) arg5 fullShare y3) -∗ K ⟨⟩))
      ⊢ wp frame (wpE (defs₀ (F := F)) Variants.none c none) E (cc1_gram_split i arg2 harg2 arg3 harg3 arg4 harg4 arg5 harg5) K := by
  simp only [cc1_gram_split_eq_skeleton]; unfold cc1_gram_split_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact (read_full arg4.view _ _ inb_S256x256_S256x256_0_0 _ rfl).trans (congrArg k1_pay2 ((congrFun (readAt_unread_ld harg3 x1) _).trans (ld_full x1 _)))
  iexists _; isplitr; · ipureintro; exact harg5.read_unread _
  iexact H3

set_option maxHeartbeats 4000000 in
theorem run1C (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x128 .f32) (harg5 : arg5.IsWhole)
    (hc1 : ¬ k1_cond1 i = 1#1) (hc2 : ¬ k1_cond2 i = 1#1) (hc3 :  k1_cond3 i = 1#1)
    (x0 x1 : Vec F S256x256 .f32) (y3 : Vec F S256x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare y3
        ∗ (iprop(owns (c : Thread nD τ) arg2 fullShare x0 ∗ owns (c : Thread nD τ) arg3 fullShare x1 ∗ owns (c : Thread nD τ) arg4 fullShare (k1_pay4 x0) ∗ owns (c : Thread nD τ) arg5 fullShare (k1_pay5 x0)) -∗ K ⟨⟩))
      ⊢ wp frame (wpE (defs₀ (F := F)) Variants.none c none) E (cc1_gram_split i arg2 harg2 arg3 harg3 arg4 harg4 arg5 harg5) K := by
  simp only [cc1_gram_split_eq_skeleton]; unfold cc1_gram_split_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact (read_full arg4.view _ _ inb_S256x256_S256x256_0_0 _ rfl).trans (congrArg k1_pay4 ((congrFun (readAt_unread_ld harg2 x0) _).trans (ld_full x0 _)))
  iexists _; isplitr; swap; · iexact H3
  ipureintro
  exact (read_full arg5.view _ _ inb_S256x128_S256x128_0_0 _ rfl).trans (congrArg k1_pay5 ((congrFun (readAt_unread_ld harg2 x0) _).trans (ld_full x0 _)))

theorem k1c1 (t : Fin cfg1.N) : k1_cond1 (grid1.coords t) = 1#1 ↔ t.val / 8 < t.val % 8 :=
  (by decide +kernel : ∀ t : Fin grid1.N, k1_cond1 (grid1.coords t) = 1#1 ↔ t.val / 8 < t.val % 8) t
theorem k1c2 (t : Fin cfg1.N) : k1_cond2 (grid1.coords t) = 1#1 ↔ t.val % 8 < t.val / 8 :=
  (by decide +kernel : ∀ t : Fin grid1.N, k1_cond2 (grid1.coords t) = 1#1 ↔ t.val % 8 < t.val / 8) t
theorem k1c3 (t : Fin cfg1.N) : k1_cond3 (grid1.coords t) = 1#1 ↔ t.val / 8 = t.val % 8 :=
  (by decide +kernel : ∀ t : Fin grid1.N, k1_cond3 (grid1.coords t) = 1#1 ↔ t.val / 8 = t.val % 8) t

variable (V : (c : Dev nD) → VC F c)

/-- Window `w`'s block at point `t`, of the arrays at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A point's block of the products, and the block across the diagonal. -/
def bG (c : Dev nD) (t : Fin cfg1.N) : Vec F S256x256 .f32 := iblk1 V c 0 t
def bGT (c : Dev nD) (t : Fin cfg1.N) : Vec F S256x256 .f32 := iblk1 V c 1 t

/-- The block of the matrix that a point stores. -/
def mBlk (c : Dev nD) (t : Fin cfg1.N) : Vec F S256x256 .bf16 :=
  if t.val / 8 < t.val % 8 then k1_pay1 (bG V c t) else if t.val % 8 < t.val / 8 then k1_pay2 (bGT V c t) else k1_pay4 (bG V c t)
/-- The remainders after a point, over what it finds. -/
def rStep (c : Dev nD) (t : Fin cfg1.N) (y : Vec F S256x128 .f32) : Vec F S256x128 .f32 :=
  if t.val / 8 = t.val % 8 then k1_pay5 (bG V c t) else y

theorem run1 (c : Dev nD) (t : Fin cfg1.N) (y3 : Vec F S256x128 .f32) (K : PUnit → sProp 𝕄) :
    iprop(owns (c : Thread nD τ) (st1_0 t) fullShare (bG V c t) ∗ owns (c : Thread nD τ) (st1_1 t) fullShare (bGT V c t) ∗ (∃ d, owns (c : Thread nD τ) (st1_2 t) fullShare d) ∗ owns (c : Thread nD τ) (st1_3 t) fullShare y3
        ∗ (iprop(owns (c : Thread nD τ) (st1_0 t) fullShare (bG V c t) ∗ owns (c : Thread nD τ) (st1_1 t) fullShare (bGT V c t) ∗ owns (c : Thread nD τ) (st1_2 t) fullShare (mBlk V c t) ∗ owns (c : Thread nD τ) (st1_3 t) fullShare (rStep V c t y3)) -∗ K ⟨⟩))
      ⊢ wp frame (wpE (defs₀ (F := F)) Variants.none c none) Set.univ (bodyAt1 t) K := by
  rcases Nat.lt_trichotomy (t.val / 8) (t.val % 8) with h | h | h
  · rw [show mBlk V c t = k1_pay1 (bG V c t) from if_pos h, show rStep V c t y3 = y3 from if_neg (by omega)]
    exact run1A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) ((k1c1 t).mpr h) (fun e => absurd ((k1c2 t).mp e) (by omega)) (fun e => absurd ((k1c3 t).mp e) (by omega)) (bG V c t) (bGT V c t) y3 Set.univ K
  · rw [show mBlk V c t = k1_pay4 (bG V c t) from (if_neg (by omega)).trans (if_neg (by omega)), show rStep V c t y3 = k1_pay5 (bG V c t) from if_pos h]
    exact run1C c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (fun e => absurd ((k1c1 t).mp e) (by omega)) (fun e => absurd ((k1c2 t).mp e) (by omega)) ((k1c3 t).mpr h) (bG V c t) (bGT V c t) y3 Set.univ K
  · rw [show mBlk V c t = k1_pay2 (bGT V c t) from (if_neg (by omega)).trans (if_pos h), show rStep V c t y3 = y3 from if_neg (by omega)]
    exact run1B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (fun e => absurd ((k1c1 t).mp e) (by omega)) ((k1c2 t).mpr h) (fun e => absurd ((k1c3 t).mp e) (by omega)) (bG V c t) (bGT V c t) y3 Set.univ K

/-- What the body may leave in each window's buffer, over what it finds. -/
def after1 (c : Dev nD) (w : Fin cfg1.W) (t : Fin cfg1.N) (Y X : (cfg1.win w).block.Idx → Elt F (cfg1.win w).elt) : Prop :=
  match w, Y, X with
  | ⟨2, _⟩, _, X => X = mBlk V c t
  | ⟨3, _⟩, Y, X => X = rStep V c t Y
  | _, Y, X => X = Y

/-- The relational proof data of the second call. -/
def rd1 (c : Dev nD) : RDat τ (Elt F) Unit ℕ UU ℕ cfg1 c where
  A w := V c (Pipeline.arrRef spec1 w)
  after := after1 V c
  Φ _ := Pipeline.scopedRest (Ix := Unit) (Name := ℕ) (U := UU) (Lvl := ℕ) (Val := Elt F) spec1 c
  q w := Pipeline.shareOf spec1 w
  owed _ := 0

theorem finds1_in (c : Dev nD) (w : Fin cfg1.W) (hw : (cfg1.win w).isOut = false) (hk : ∀ t Y X, after1 V c w t Y X → X = Y)
    (hclip : ∀ t t' : Fin cfg1.N, (cfg1.win w).index t = (cfg1.win w).index t' → (cfg1.win w).clip (cfg1.grid.coords t) = (cfg1.win w).clip (cfg1.grid.coords t'))
    (t : Fin cfg1.N) (B : (cfg1.win w).block.Idx → Elt F (cfg1.win w).elt)
    (hf : ∀ d, (rd1 V c).fetched w t d = B) (Y) (h : (rd1 V c).Finds w t Y) : Y = B := by
  obtain ⟨d, rfl⟩ := (rd1 V c).finds_in_eq_fetched w hw hclip hk t Y h
  exact hf d

theorem finds1_0 (c : Dev nD) (t : Fin cfg1.N) (Y) (h : (rd1 V c).Finds 0 t Y) : Y = bG V c t :=
  finds1_in V c 0 rfl (fun _ _ _ h => h) (fun _ _ _ => rfl) t (bG V c t) (fun _ => rfl) Y h
theorem finds1_1 (c : Dev nD) (t : Fin cfg1.N) (Y) (h : (rd1 V c).Finds 1 t Y) : Y = bGT V c t :=
  finds1_in V c 1 rfl (fun _ _ _ h => h) (fun _ _ _ => rfl) t (bGT V c t) (fun _ => rfl) Y h

theorem defs₀_row1 (t : Fin cfg1.N) : defs₀ (F := F) .tc cfg1.body (cfg1.bodyArgs t (cfg1.slots t)) = bodyAt1 t := by
  unfold defs₀; rw [Defs.onTc_tc]

set_option maxHeartbeats 2000000 in
/-- The body obligation of the second call. -/
theorem body1 (c : Dev nD) : (rd1 V c).BodyObligation (defs₀ (F := F)) 𝒱₀ () Set.univ := fun t Y hY => by
  rw [bigSep_W1, bigSep_W1, defs₀_row1,
    show (rd1 V c).owesAt () t.succ = (rd1 V c).owesAt () t.castSucc from rfl,
    show (rd1 V c).Φ t.succ = (rd1 V c).Φ t.castSucc from rfl,
    finds1_0 V c t _ (hY 0), finds1_1 V c t _ (hY 1)]
  iintro ⟨HR, Ho, H0, H1, H2, H3⟩
  iapply (run1 V c t (Y 3))
  isplitl [H0]; · iexact H0
  isplitl [H1]; · iexact H1
  isplitl [H2]; · iexists _; iexact H2
  isplitl [H3]; · iexact H3
  iintro ⟨H0, H1, H2, H3⟩
  isplitl [HR]; · iexact HR
  isplitl [Ho]; · iexact Ho
  isplitl [H0]
  · iexists _; isplitr; swap; (· iexact H0); ipureintro; exact (rfl : _ = _)
  isplitl [H1]
  · iexists _; isplitr; swap; (· iexact H1); ipureintro; exact (rfl : _ = _)
  isplitl [H2]
  · iexists _; isplitr; swap; (· iexact H2); ipureintro; exact (rfl : _ = _)
  iexists _; isplitr; swap; (· iexact H3); ipureintro; exact (rfl : _ = _)

/-- Point `n` of the grid. -/
def pt1 (n : ℕ) : Fin cfg1.N := ⟨n % 64, by rw [show cfg1.N = 64 from N_1]; omega⟩

/-- The matrix the call ends with. -/
def mArr (c : Dev nD) : Vec F S2048x2048 .bf16 := fun j =>
  mBlk V c (pt1 ((j 0).val / 256 * 8 + (j 1).val / 256))
    (ValueIdx.ix2 (⟨(j 0).val % 256, Nat.mod_lt _ (by decide)⟩ : Fin 256) (⟨(j 1).val % 256, Nat.mod_lt _ (by decide)⟩ : Fin 256))
/-- The remainders the call ends with. -/
def rArr (c : Dev nD) : Vec F S2048x128 .f32 := fun j =>
  k1_pay5 (bG V c (pt1 ((j 0).val / 256 * 9))) (ValueIdx.ix2 (⟨(j 0).val % 256, Nat.mod_lt _ (by decide)⟩ : Fin 256) (j 1))

theorem mArr_at (c : Dev nD) (t : Fin cfg1.N) (y : S256x256.Idx) (j : S2048x2048.Idx)
    (e0 : (j 0).val = t.val / 8 * 256 + (y 0).val) (e1 : (j 1).val = t.val % 8 * 256 + (y 1).val) : mBlk V c t y = mArr V c j := by
  have ht : t.val < 64 := Nat.lt_of_lt_of_eq t.isLt N_1
  have b0 : (y 0).val < 256 := (y 0).isLt
  have b1 : (y 1).val < 256 := (y 1).isLt
  have hp : pt1 ((j 0).val / 256 * 8 + (j 1).val / 256) = t := by
    apply Fin.ext; unfold pt1; simp only [e0, e1]; omega
  unfold mArr
  rw [hp]
  refine congrArg _ (funext fun a => Fin.ext ?_)
  fin_cases a
  · show (y 0).val = (j 0).val % 256
    rw [e0]; omega
  · show (y 1).val = (j 1).val % 256
    rw [e1]; omega

theorem rArr_at (c : Dev nD) (t : Fin cfg1.N) (y : S256x128.Idx) (j : S2048x128.Idx)
    (e0 : (j 0).val = t.val / 8 * 256 + (y 0).val) (e1 : (j 1).val = (y 1).val) : k1_pay5 (bG V c (pt1 (t.val / 8 * 9))) y = rArr V c j := by
  have ht : t.val < 64 := Nat.lt_of_lt_of_eq t.isLt N_1
  have b0 : (y 0).val < 256 := (y 0).isLt
  have hp : (j 0).val / 256 = t.val / 8 := by rw [e0]; omega
  unfold rArr
  rw [hp]
  refine congrArg _ (funext fun a => Fin.ext ?_)
  fin_cases a
  · show (y 0).val = (j 0).val % 256
    rw [e0]; omega
  · exact e1.symm

theorem leaves1_3 (c : Dev nD) : ∀ (n : ℕ) (t : Fin cfg1.N), t.val = n → t.val / 8 ≤ t.val % 8 → ∀ X, (rd1 V c).Leaves 3 t X →
    X = k1_pay5 (bG V c (pt1 (t.val / 8 * 9)))
  | n, t, hn, ht, X, ⟨Y, hY, hX⟩ => by
    have hX : X = rStep V c t Y := hX
    have hl : t.val < 64 := Nat.lt_of_lt_of_eq t.isLt N_1
    by_cases h : t.val / 8 = t.val % 8
    · rw [hX, show rStep V c t Y = k1_pay5 (bG V c t) from if_pos h]
      have : t = pt1 (t.val / 8 * 9) := by apply Fin.ext; unfold pt1; simp only; omega
      rw [← this]
    · rw [hX, show rStep V c t Y = Y from if_neg h]
      have hf : (cfg1.win 3).fetch t = false := (cfg1.win 3).fetch_out rfl t
      rcases (rd1 V c).finds_of_pos hf (by omega) Y |>.mp hY with h2 | h2
      · have := (flush1_3 _).mp h2
        have h3 : (t.val - 1) % 8 = 7 := this
        omega
      · have e : (t.val - 1) / 8 = t.val / 8 := by omega
        match n, hn with
        | n + 1, hn =>
          have := leaves1_3 c n ⟨t.val - 1, Nat.lt_of_le_of_lt (Nat.sub_le _ _) t.isLt⟩ (by show t.val - 1 = n; omega) (by show (t.val - 1) / 8 ≤ (t.val - 1) % 8; omega) Y h2
          rw [this]
          show k1_pay5 (bG V c (pt1 ((t.val - 1) / 8 * 9))) = _
          rw [e]
        | 0, hn => omega

theorem idx1_2 (t : Fin cfg1.N) : (cfg1.win 2).index t = ![t.val / 8, t.val % 8] :=
  (by decide +kernel : ∀ t : Fin grid1.N, win1_2.index t = ![t.val / 8, t.val % 8]) t
theorem idx1_3 (t : Fin cfg1.N) : (cfg1.win 3).index t = ![t.val / 8, 0] :=
  (by decide +kernel : ∀ t : Fin grid1.N, win1_3.index t = ![t.val / 8, 0]) t

theorem covers1_2 : (cfg1.win 2).Covers := (by decide +kernel : win1_2.Covers)
theorem covers1_3 : (cfg1.win 3).Covers := (by decide +kernel : win1_3.Covers)

theorem fin1_2 (c : Dev nD) (G) (hG : (rd1 V c).ArrAt 2 cfg1.N G) : G = mArr V c := by
  refine arr_eq hG (mArr V c) covers1_2 (Memref.isWhole_whole _) fun t X hf ⟨Y, hY, hX⟩ => ?_
  have hX : X = mBlk V c t := hX
  have key := mArr_at V c t
  rw [← hX] at key
  clear hX
  generalize mArr V c = T at key ⊢
  refine funext fun y => key y (((cfg1.win 2).blk t).view.emb y) ?_ ?_
  · refine ((cfg1.win 2).rect_emb_val t y 0).trans ?_; rw [idx1_2]; rfl
  · refine ((cfg1.win 2).rect_emb_val t y 1).trans ?_; rw [idx1_2]; rfl

theorem fin1_3 (c : Dev nD) (G) (hG : (rd1 V c).ArrAt 3 cfg1.N G) : G = rArr V c := by
  refine arr_eq hG (rArr V c) covers1_3 (Memref.isWhole_whole _) fun t X hf hX => ?_
  have h7 := (flush1_3 t).mp hf
  have hX := leaves1_3 V c _ t rfl (by have ht : t.val < 64 := Nat.lt_of_lt_of_eq t.isLt N_1; omega) X hX
  have key := rArr_at V c t
  rw [← hX] at key
  clear hX
  generalize rArr V c = T at key ⊢
  refine funext fun y => key y (((cfg1.win 3).blk t).view.emb y) ?_ ?_
  · refine ((cfg1.win 3).rect_emb_val t y 0).trans ?_; rw [idx1_3]; rfl
  · refine ((cfg1.win 3).rect_emb_val t y 1).trans ?_; rw [idx1_3]; exact Nat.zero_add _

/-- The family of proof data with the second call's. -/
def fam1 : RFam F
  | ⟨0, _⟩ => fun c => junkR c
  | ⟨1, _⟩ => fun c => rd1 V c
  | ⟨2, _⟩ => fun c => junkR c

/-- The second call, from every unscoped buffer at `V`, to any `V'` that has the two results and is else `V`. -/
def reg1 (V' : (c : Dev nD) → VC F c) (h0 : ∀ c, V' c main_v2_0 = mArr V c) (h1 : ∀ c, V' c main_v2_1 = rArr V c)
    (hr : ∀ c b, b ∉ ([main_v2_0, main_v2_1] : List (Ref sig .tc)) → V' c b = V c b) :
    RDat.RegionSeg (pcfgs (F := F)) adm (fam1 V) () (defs₀ (F := F)) 𝒱₀ L lv 1 :=
  regR 1 launch₀1 (fam1 V) V V' (fun c => by
      unfold Pipeline.prefHeld; rw [show (Finset.univ : Finset (Fin 0)) = ∅ from rfl, BI.bigSep_empty])
    (fun _ _ => rfl) (fun c w _ => rfl) (fun _ _ => rfl) (fun _ _ => rfl) (body1 V) (fun c => Laws.entails_refl _) (fun c => Laws.entails_refl _)
    (fun c w G hG => by
      have hin : ∀ w : Fin 4, (cfg1.win w).isOut = false → Pipeline.arrRef spec1 w ∉ ([main_v2_0, main_v2_1] : List (Ref sig .tc)) := by decide
      by_cases hw : (cfg1.win w).isOut = false
      · have hG : (rd1 V c).ArrAt w cfg1.N G := hG
        rw [(rd1 V c).ArrAt_in w hw] at hG
        exact hG.trans (hr c _ (hin w hw)).symm
      · have hw : w = 2 ∨ w = 3 := (by decide : ∀ w : Fin 4, ¬ (cfg1.win w).isOut = false → w = 2 ∨ w = 3) w hw
        rcases hw with rfl | rfl
        · exact (fin1_2 V c G hG).trans (h0 c).symm
        · exact (fin1_3 V c G hG).trans (h1 c).symm)
    (fun c b hb => hr c b fun h => hb (by
      have : ∀ b ∈ ([main_v2_0, main_v2_1] : List (Ref sig .tc)), b ∈ Finset.univ.image (Pipeline.arrRef spec1) := by decide
      exact this b h))

end Cert.KernelIdeal.Main

end
-- ==== Proof.Main.Loop.lean ====
/-
  What every buffer of the program holds between the items of its main function, and the host loop's condition.
-/
module

public import proofs.«01_k».proof.Proof.Main.Reg1
public import Idealize.ShloMosaic.Lib.Pipeline.RegionsLoop
public import Idealize.ShloMosaic.Lib.Pipeline.RegionsForgetR
public import Idealize.ShloMosaic.Lib.StableHlo.RunLoop
public import Idealize.ShloMosaic.Lib.Scf.ExitTest
public import Idealize.ShloMosaic.Lib.Scf.Counter

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

/-! ## The host loop's operations -/

section
open Idealize.ShloMosaic.StableHlo
/-- The condition's two operations: the bound, and the counter compared with it. -/
abbrev condOps : List (HloOp τ sig (Elt F)) :=
  [ StableHlo.nullary main_while0c_c_6 (constantI S_ 32 20#32),
    StableHlo.binary main_v10_2 main_while0c_c_6 main_while0c_v30 (cmpi .slt) ]
/-- The body's four stretches. -/
abbrev bodyI : List (List (HloOp τ sig (Elt F))) := [while0Ops0, while0Ops0_1, while0Ops0_2, while0Ops0_3]
theorem hbodyI : Plain (bodyI (F := F)) :=
  .cons while0Ops0_sub (.cons while0Ops0_1_sub (.cons while0Ops0_2_sub (.cons while0Ops0_3_sub .nil)))
end

/-- The references the condition's operations write. -/
abbrev condOps_W : List (Ref sig .tc) := [main_while0c_c_6, main_while0c_v30]
theorem condOps_writes : (condOps : List (HloOp τ sig (Elt F))).Forall fun op => op.writes ⊆ (condOps_W.map (Proc.devRef (τ := τ) .tc)).toFinset :=
  StableHlo.forall_writes_sub_of_map rfl
/-- The references the body's first stretch writes. -/
abbrev b0_W : List (Ref sig .tc) := [main_while0b_call0_v0, main_while0b_v30]
theorem b0_writes : (while0Ops0 : List (HloOp τ sig (Elt F))).Forall fun op => op.writes ⊆ (b0_W.map (Proc.devRef (τ := τ) .tc)).toFinset :=
  StableHlo.forall_writes_sub_of_map rfl
/-- The references the body's second stretch writes. -/
abbrev b1_W : List (Ref sig .tc) := [main_while0b_v31, main_while0b_cst_6, main_while0b_v32, main_while0b_v33, main_while0b_v34, main_while0b_cst_7,
  main_while0b_v35, main_while0b_v36, main_while0b_cst_8, main_while0b_v37, main_while0b_cst_9, main_while0b_v38, main_while0b_v39, main_while0b_v40,
  main_while0b_v41, main_while0b_v42]
theorem b1_writes : (while0Ops0_1 : List (HloOp τ sig (Elt F))).Forall fun op => op.writes ⊆ (b1_W.map (Proc.devRef (τ := τ) .tc)).toFinset :=
  StableHlo.forall_writes_sub_of_map rfl
/-- The references the body's third stretch writes. -/
abbrev b2_W : List (Ref sig .tc) := [main_while0b_call1_v0, main_while0b_call1_c, main_while0b_v43]
theorem b2_writes : (while0Ops0_2 : List (HloOp τ sig (Elt F))).Forall fun op => op.writes ⊆ (b2_W.map (Proc.devRef (τ := τ) .tc)).toFinset :=
  StableHlo.forall_writes_sub_of_map rfl
/-- The references the body's last stretch writes. -/
abbrev b3_W : List (Ref sig .tc) := [main_while0b_c_10, main_while0b_v44, main_v10_2, main_v10_3]
theorem b3_writes : (while0Ops0_3 : List (HloOp τ sig (Elt F))).Forall fun op => op.writes ⊆ (b3_W.map (Proc.devRef (τ := τ) .tc)).toFinset :=
  StableHlo.forall_writes_sub_of_map rfl

/-- A reference the body does not write keeps its contents through one run of it. -/
theorem body_keep (X : Valuation τ sig (Elt F)) (r : Ref sig .tc) (h : r ∉ b0_W ++ b1_W ++ b2_W ++ b3_W) :
    StableHlo.afterL bodyI X (Proc.devRef .tc r) = X (Proc.devRef .tc r) := by
  simp only [List.mem_append, not_or] at h
  simp only [StableHlo.afterL_cons, StableHlo.afterL_nil]
  rw [StableHlo.after_of_writes_sub while0Ops0_3 _ b3_writes h.2, StableHlo.after_of_writes_sub while0Ops0_2 _ b2_writes h.1.2,
    StableHlo.after_of_writes_sub while0Ops0_1 _ b1_writes h.1.1.2, StableHlo.after_of_writes_sub while0Ops0 _ b0_writes h.1.1.1]

/-! ## The contents between items -/

/-- A valuation's TensorCore references. -/
abbrev vc (A : Dev nD → Valuation τ sig (Elt F)) : (c : Dev nD) → VC F c := fun c b => A c (Proc.devRef .tc b)

/-- At the first call. -/
def A1 : Dev nD → Valuation τ sig (Elt F) := fun c => StableHlo.after hostOps0 (V0 m c)
/-- At the second call. -/
def A2 : Dev nD → Valuation τ sig (Elt F) := fun c => Function.update (A1 m c) main_v1 (gArr (vc (A1 m)) c)
/-- After the second call. -/
def A3 : Dev nD → Valuation τ sig (Elt F) := fun c =>
  Function.update (Function.update (A2 m c) main_v2_0 (mArr (vc (A2 m)) c)) main_v2_1 (rArr (vc (A2 m)) c)
/-- At the host loop. -/
def A4 : Dev nD → Valuation τ sig (Elt F) := fun c => StableHlo.after hostOps2 (A3 m c)
/-- Before the condition's run number `k`. -/
def Wk (k : ℕ) (c : Dev nD) : Valuation τ sig (Elt F) := StableHlo.atTrip condOps bodyI (A4 m) k c
/-- After the host loop. -/
def A5 : Dev nD → Valuation τ sig (Elt F) := fun c => StableHlo.after condOps (Wk m 20 c)
/-- At the main call. -/
def A6 : Dev nD → Valuation τ sig (Elt F) := fun c => StableHlo.after hostOps2_1 (A5 m c)
/-- After the main call. -/
def A7 : Dev nD → Valuation τ sig (Elt F) := fun c =>
  Function.update (Function.update (Function.update (A6 m c) main_v21_0 (lossArr (vc (A6 m)) c)) main_v21_1 (codesArr (vc (A6 m)) c))
    main_v21_2 (scalesArr (vc (A6 m)) c)
/-- At the end. -/
def A8 : Dev nD → Valuation τ sig (Elt F) := fun c => StableHlo.after hostOps3 (A7 m c)

theorem A2_of (c : Dev nD) (r : Ref sig .tc) (h : r ∉ ([main_v1] : List (Ref sig .tc))) : A2 m c r = A1 m c r := by
  simp only [List.mem_cons, List.mem_nil_iff, or_false] at h
  unfold A2
  exact Function.update_of_ne (fun e => h (Proc.devRef_injective _ e)) _ _
theorem A2_v1 (c : Dev nD) : A2 m c (Proc.devRef .tc main_v1) = gArr (vc (A1 m)) c := by unfold A2; exact Function.update_self ..

theorem A3_of (c : Dev nD) (r : Ref sig .tc) (h : r ∉ ([main_v2_0, main_v2_1] : List (Ref sig .tc))) : A3 m c r = A2 m c r := by
  simp only [List.mem_cons, List.mem_nil_iff, or_false, not_or] at h
  unfold A3
  exact (Function.update_of_ne (fun e => h.2 (Proc.devRef_injective _ e)) _ _).trans (Function.update_of_ne (fun e => h.1 (Proc.devRef_injective _ e)) _ _)
theorem A3_v2_0 (c : Dev nD) : A3 m c (Proc.devRef .tc main_v2_0) = mArr (vc (A2 m)) c := by
  unfold A3
  exact (Function.update_of_ne (by decide) _ _).trans (Function.update_self ..)
theorem A3_v2_1 (c : Dev nD) : A3 m c (Proc.devRef .tc main_v2_1) = rArr (vc (A2 m)) c := by unfold A3; exact Function.update_self ..

theorem A7_of (c : Dev nD) (r : Ref sig .tc) (h : r ∉ ([main_v21_0, main_v21_1, main_v21_2] : List (Ref sig .tc))) : A7 m c r = A6 m c r := by
  simp only [List.mem_cons, List.mem_nil_iff, or_false, not_or] at h
  unfold A7
  exact ((Function.update_of_ne (fun e => h.2.2 (Proc.devRef_injective _ e)) _ _).trans (Function.update_of_ne (fun e => h.2.1 (Proc.devRef_injective _ e)) _ _)).trans
    (Function.update_of_ne (fun e => h.1 (Proc.devRef_injective _ e)) _ _)
theorem A7_v21_0 (c : Dev nD) : A7 m c (Proc.devRef .tc main_v21_0) = lossArr (vc (A6 m)) c := by
  unfold A7
  exact (Function.update_of_ne (by decide) _ _).trans ((Function.update_of_ne (by decide) _ _).trans (Function.update_self ..))
theorem A7_v21_1 (c : Dev nD) : A7 m c (Proc.devRef .tc main_v21_1) = codesArr (vc (A6 m)) c := by
  unfold A7
  exact (Function.update_of_ne (by decide) _ _).trans (Function.update_self ..)
theorem A7_v21_2 (c : Dev nD) : A7 m c (Proc.devRef .tc main_v21_2) = scalesArr (vc (A6 m)) c := by unfold A7; exact Function.update_self ..

/-! ## The counter and the condition -/

section
open Idealize.ShloMosaic.StableHlo
open Idealize.ShloMosaic.Pipeline (ucRefs sub_ucRefs)

theorem Wk_zero (c : Dev nD) : Wk m 0 c = A4 m c := rfl
theorem Wk_succ (k : ℕ) (c : Dev nD) : Wk m (k + 1) c = afterL bodyI (after condOps (Wk m k c)) := rfl

/-- A reference the loop does not write. -/
theorem Wk_keep (r : Ref sig .tc) (h : r ∉ b0_W ++ b1_W ++ b2_W ++ b3_W) (h' : r ∉ condOps_W) (c : Dev nD) :
    ∀ k, Wk m k c (Proc.devRef .tc r) = A4 m c (Proc.devRef .tc r)
  | 0 => rfl
  | k + 1 => by rw [Wk_succ, body_keep _ r h, after_of_writes_sub condOps _ condOps_writes h', Wk_keep r h h' c k]
theorem A5_keep (r : Ref sig .tc) (h : r ∉ b0_W ++ b1_W ++ b2_W ++ b3_W) (h' : r ∉ condOps_W) (c : Dev nD) :
    A5 m c (Proc.devRef .tc r) = A4 m c (Proc.devRef .tc r) := by
  unfold A5
  rw [after_of_writes_sub condOps _ condOps_writes h', Wk_keep m r h h' c]

theorem ctr_step (X : Valuation τ sig (Elt F)) :
    afterL bodyI X (Proc.devRef .tc main_v10_2) = addi (X (Proc.devRef .tc main_v10_2)) (constantI S_ 32 1#32) := by
  simp only [afterL_cons, afterL_nil]
  have h3 : ∀ Y : Valuation τ sig (Elt F), after while0Ops0_3 Y (Proc.devRef .tc main_v10_2) = addi (Y (Proc.devRef .tc main_v10_2)) (constantI S_ 32 1#32) := fun Y => by
    after_results
    rfl
  rw [h3, after_of_writes_sub while0Ops0_2 _ b2_writes (by decide), after_of_writes_sub while0Ops0_1 _ b1_writes (by decide),
    after_of_writes_sub while0Ops0 _ b0_writes (by decide)]
theorem ctr_entry (c : Dev nD) : A4 m c (Proc.devRef .tc main_v10_2) = fun _ => (0#32 : BitVec 32) := by
  unfold A4
  after_results
  rfl
theorem Wk_ctr (c : Dev nD) : ∀ k, Wk m k c (Proc.devRef .tc main_v10_2) = fun _ => Scf.iv 0#32 1#32 k
  | 0 => by rw [Wk_zero, ctr_entry, Scf.iv_zero]
  | k + 1 => by
    rw [Wk_succ, ctr_step, after_of_writes_sub condOps _ condOps_writes (by decide), Wk_ctr c k, Scf.iv_succ]
    rfl

set_option backward.isDefEq.respectTransparency.types false in
/-- The loop's condition, run before body number `k`, holds exactly while `k` is below 20. -/
theorem cond_spec (Rc : Dev nD → sProp 𝕄) : LoopCond (pcfgs (F := F)) defs₀ 𝒱₀ loops Rc (main_while0_cond (F := F)) condOps bodyI (A4 m) 20 := by
  intro k hk c bd
  have hctr : atTrip condOps bodyI (A4 m) k c (Proc.devRef .tc main_v10_2) = _ := Wk_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (A4 m) k c) main_v10_2 HostLoop.idx0)
        (HloOp.result _ (atTrip condOps bodyI (A4 m) k c) main_while0c_c_6 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  isplitl [Hh]; · rw [after_cons, after_cons, after_nil]; iexact Hh
  iexact HR
end

end Cert.KernelIdeal.Main

end
-- ==== Proof.Main.Chain.lean ====
/-
  The run of the whole program: its eight items as segments, each entered from the contents the one before left.
-/
module

public import proofs.«01_k».proof.Proof.Main.Loop

@[expose] public section

set_option maxRecDepth 16384

noncomputable section

namespace Cert.KernelIdeal.Main

open Cert.KernelIdeal Cert.KernelIdeal.Gen Cert.KernelIdeal.Gen.Cond
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

open Idealize.ShloMosaic.Pipeline (CSeg)

/-- Ticket `j`'s copy of the pipeline library's algebra. -/
abbrev EP (j : Fin 3) : Emb (URounds (GSem nD τ sig) Unit) 𝕄 := embAt j

/-- Each region's ticket. -/
abbrev tks : Fin 3 → Pipeline.Ticket (Ix := Unit) (Name := ℕ) (U := UU) (Lvl := ℕ) (nD := nD) (τ := τ) (pcfgs (F := F)) adm :=
  tk (fun _ _ c => junkD c) EP

abbrev KSeg : Type 1 := CSeg (Ix := Unit) (Name := ℕ) (U := UU) (Lvl := ℕ) (pcfgs (F := F)) adm defs₀ 𝒱₀ L lv loops tks

/-- What rides beside the buffers: the core owes nothing. -/
abbrev Ow (c : Dev nD) : sProp 𝕄 := iprop(∃ W, owes (c : Thread nD τ) (0 : CellTallies nD τ sig Unit) W)

abbrev H0 : KSeg (F := F) := CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Ow
abbrev H2 : KSeg (F := F) := CSeg.ofOps _ _ _ _ _ _ _ _ (Pipeline.ucRefs τ sig) hostOps2
    (fun op h => Pipeline.sub_ucRefs op ((List.forall_iff_forall_mem.mp hostOps2_sub) op h))
    (fun op h => (List.forall_iff_forall_mem.mp hostOps2_fresh) op h) (A3 m) Ow
abbrev H5 : KSeg (F := F) := CSeg.ofOps _ _ _ _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (A5 m) Ow
abbrev H7 : KSeg (F := F) := CSeg.ofOps _ _ _ _ _ _ _ _ (Pipeline.ucRefs τ sig) hostOps3
    (fun op h => Pipeline.sub_ucRefs op ((List.forall_iff_forall_mem.mp hostOps3_sub) op h))
    (fun op h => (List.forall_iff_forall_mem.mp hostOps3_fresh) op h) (A7 m) Ow
/-- The host loop's segment. -/
abbrev HL : KSeg (F := F) :=
  StableHlo.loopSeg _ _ _ _ _ _ _ _ 0 (main_while0_cond (F := F)) (main_while0_body (F := F)) rfl condOps bodyI hbodyI
    (by rw [while0_body_chain]; rfl) 20 (A4 m) Ow (cond_spec m Ow)

abbrev R0 := reg0 (vc (A1 m)) (vc (A2 m)) (fun c => A2_v1 m c) (fun c b h => A2_of m c b h)
abbrev R1 := reg1 (vc (A2 m)) (vc (A3 m)) (fun c => A3_v2_0 m c) (fun c => A3_v2_1 m c) (fun c b h => A3_of m c b h)
abbrev R2 := reg2 (vc (A6 m)) (vc (A7 m)) (fun c => A7_v21_0 m c) (fun c => A7_v21_1 m c) (fun c => A7_v21_2 m c) (fun c b h => A7_of m c b h)

abbrev C0 : KSeg (F := F) := CSeg.regionAtR (pcfgs (F := F)) adm () cellOf_inj defs₀ 𝒱₀ L lv loops tks 0 (fam0 (vc (A1 m))) (R0 m)
abbrev C1 : KSeg (F := F) := CSeg.regionAtR (pcfgs (F := F)) adm () cellOf_inj defs₀ 𝒱₀ L lv loops tks 1 (fam1 (vc (A2 m))) (R1 m)
abbrev C2 : KSeg (F := F) := CSeg.regionAtR (pcfgs (F := F)) adm () cellOf_inj defs₀ 𝒱₀ L lv loops tks 2 (fam2 (vc (A6 m))) (R2 m)

abbrev ksegs : List (KSeg (F := F)) := [H0 m, C0 m, C1 m, H2 m, HL m, H5 m, C2 m, H7 m]

/-- The launch's element: one copy of the library's for each ticket. -/
def u₀ : UU := (fun _ => initOf (Pipeline.cells cfgs cellOf_inj) (Pipeline.launchToks cfgs cellOf_inj), 1)

theorem ksegs_disjoint : (ksegs m).Pairwise fun s s' => Disjoint s.T s'.T := by
  have e0 : (H0 m).T = ∅ := rfl
  have e1 : (C0 m).T = {0} := rfl
  have e2 : (C1 m).T = {1} := rfl
  have e3 : (H2 m).T = ∅ := rfl
  have e4 : (HL m).T = ∅ := StableHlo.loopSeg_T ..
  have e5 : (H5 m).T = ∅ := rfl
  have e6 : (C2 m).T = {2} := rfl
  have e7 : (H7 m).T = ∅ := rfl
  have : ((ksegs m).map CSeg.T).Pairwise Disjoint := by
    show List.Pairwise Disjoint [(H0 m).T, (C0 m).T, (C1 m).T, (H2 m).T, (HL m).T, (H5 m).T, (C2 m).T, (H7 m).T]
    rw [e0, e1, e2, e3, e4, e5, e6, e7]
    decide
  exact List.pairwise_map.mp this

/-- The record of a region over `unscopedBufs` is one over `held`. -/
theorem held_vc (A : Dev nD → Valuation τ sig (Elt F)) (c : Dev nD) :
    (unscopedBufs c (vc A c) : sProp 𝕄) = StableHlo.held (c : Thread nD τ) (Pipeline.ucRefs τ sig) (A c) :=
  Pipeline.unscopedBufs_held c (A c)

theorem toR (A : Dev nD → Valuation τ sig (Elt F)) (c : Dev nD) :
    iprop(StableHlo.held (c : Thread nD τ) (Pipeline.ucRefs τ sig) (A c) ∗ Ow c) ⊢ (iprop(unscopedBufs c (vc A c) ∗ Ow c) : sProp 𝕄) := by
  rw [held_vc]
theorem ofR (A : Dev nD → Valuation τ sig (Elt F)) (c : Dev nD) :
    (iprop(unscopedBufs c (vc A c) ∗ Ow c) : sProp 𝕄) ⊢ iprop(StableHlo.held (c : Thread nD τ) (Pipeline.ucRefs τ sig) (A c) ∗ Ow c) := by
  rw [held_vc]

set_option backward.isDefEq.respectTransparency.types false in
/-- THE RUN. From any memory with zero counters every weakly fair execution of the program ends, and every final state has each
    of the program's tensors at `A8` and every counter at zero. -/
theorem run_main (g : Dev nD → PrngReg) : θ_run defs (onTc (τ := τ) (main (F := F))) ⟨m, fun _ => 0, g⟩
    (fun r => (∀ (c : Dev nD), ∀ b ∈ Pipeline.ucRefs τ sig, r.2.mem (((c : Thread nD τ)).1, b) = A8 m c b) ∧ r.2.sem = fun _ => 0) :=
  Pipeline.θ_run_regions_loop_kit_sems (pcfgs (F := F)) adm cellOf_inj defs₀ 𝒱₀ L lv loops tks m g main (ksegs m)
    (fun c Q => by
      rewrite [main_chain c, CSeg.runL,
        show (ksegs m).map CSeg.prog = [
          StableHlo.seq hostOps0,
          (Prog.lift (.customCall (HostLoop.inner (Pipeline.entry 0)) ())),
          (Prog.lift (.customCall (HostLoop.inner (Pipeline.entry 1)) ())),
          StableHlo.seq hostOps2,
          HostLoop.enter 0,
          StableHlo.seq hostOps2_1,
          (Prog.lift (.customCall (HostLoop.inner (Pipeline.entry 2)) ())),
          StableHlo.seq hostOps3 ] from rfl]
      exact .rfl)
    (ksegs_disjoint m)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]
      · iapply (own_iprod (B := Counters) (fun _ : Fin 3 => initOf (Pipeline.cells cfgs cellOf_inj) (Pipeline.launchToks cfgs cellOf_inj)))
        iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ow c))
    (Tₙ := fun c => StableHlo.held (c : Thread nD τ) (Pipeline.ucRefs τ sig) (A8 m c))
    (hch := ⟨fun _ => .rfl, fun c => toR (A1 m) c, fun c => .rfl, fun c => ofR (A3 m) c, fun _ => .rfl, fun _ => .rfl, fun c => toR (A6 m) c,
      fun c => ofR (A7 m) c, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = A8 m c b)
    (hfin := fun c s' => by
      unfold StableHlo.held
      iintro ⟨Hh, HSI⟩
      ihave Hr := (pointsTo_read_all (Pipeline.ucRefs τ sig) (fun b => ((c : Thread nD τ).1, b)) (A8 m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

/-- A reference that no item writes ends as launched. -/
theorem A8_arg (r : Ref sig .tc) (h0 : r ∉ hostOps0_W) (h1 : r ∉ ([main_v1] : List (Ref sig .tc))) (h2 : r ∉ ([main_v2_0, main_v2_1] : List (Ref sig .tc)))
    (h3 : r ∉ hostOps2_W) (h4 : r ∉ b0_W ++ b1_W ++ b2_W ++ b3_W) (h4' : r ∉ condOps_W) (h5 : r ∉ hostOps2_1_W)
    (h6 : r ∉ ([main_v21_0, main_v21_1, main_v21_2] : List (Ref sig .tc))) (h7 : r ∉ hostOps3_W) (c : Dev nD) :
    A8 m c (Proc.devRef .tc r) = m ((c : Thread nD τ).loc r) := by
  have e8 : A8 m c (Proc.devRef .tc r) = A7 m c (Proc.devRef .tc r) := StableHlo.after_of_writes_sub hostOps3 _ hostOps3_writes h7
  have e6 : A6 m c (Proc.devRef .tc r) = A5 m c (Proc.devRef .tc r) := StableHlo.after_of_writes_sub hostOps2_1 _ hostOps2_1_writes h5
  have e4 : A4 m c (Proc.devRef .tc r) = A3 m c (Proc.devRef .tc r) := StableHlo.after_of_writes_sub hostOps2 _ hostOps2_writes h3
  have e1 : A1 m c (Proc.devRef .tc r) = V0 m c (Proc.devRef .tc r) := StableHlo.after_of_writes_sub hostOps0 _ hostOps0_writes h0
  exact e8.trans ((A7_of m c r h6).trans (e6.trans ((A5_keep m r h4 h4' c).trans (e4.trans ((A3_of m c r h2).trans ((A2_of m c r h1).trans e1))))))

/-- The frame, at any reading of the floats: the program ends, its arguments as launched, every counter at zero. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c (Proc.devRef .tc main_arg0) (Finset.mem_filter.mpr ⟨StableHlo.devRef_mem_tcRefs main_arg0, by decide⟩)).trans
        (A8_arg m main_arg0 (by decide) (by decide) (by decide) (by decide) (by decide) (by decide) (by decide) (by decide) (by decide) c),
      (h.1 c (Proc.devRef .tc main_arg1) (Finset.mem_filter.mpr ⟨StableHlo.devRef_mem_tcRefs main_arg1, by decide⟩)).trans
        (A8_arg m main_arg1 (by decide) (by decide) (by decide) (by decide) (by decide) (by decide) (by decide) (by decide) (by decide) c)⟩, h.2⟩) (run_main m g)

end Cert.KernelIdeal.Main

end
-- ==== Proof.Main.Frames.lean ====
/-
  The frames: each of the three programs ends, with its arguments as launched and every counter at zero.
-/
module

public import proofs.«01_k».proof.Defs
public import proofs.«01_k».proof.Proof.Gen.Kernel
public import proofs.«01_k».proof.Proof.Gen.ReferenceIdeal.Run
public import proofs.«01_k».proof.Proof.Main.Chain
public import Idealize.ShloMosaic.Lib.Tactic

@[expose] public section

noncomputable section

namespace Cert.Proof

open Idealize.ShloMosaic Idealize.SL.Sem

/-- The kernel's frame said of the idealized program's text, which is the same text, at machine floats. -/
def quiB [hK : Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem eqB [hK : Cert.Kernel.Facts] [hI : Cert.KernelIdeal.Facts] : Cert.quiescent_Kernel = quiB := by sl_kernel_rfl

theorem frame_k : Cert.quiescent_Kernel (hKernel := Cert.Kernel.Gen.facts) := by
  rw [eqB (hI := Cert.KernelIdeal.Gen.facts)]
  exact fun m g _ => Cert.KernelIdeal.Main.frame (F := Bits) m g

theorem frame_ki : Cert.quiescent_KernelIdeal (hKernelIdeal := Cert.KernelIdeal.Gen.facts) :=
  fun m g _ => Cert.KernelIdeal.Main.frame (F := Ideal) m g

theorem frame_ri : Cert.quiescent_ReferenceIdeal (hReferenceIdeal := Cert.ReferenceIdeal.Gen.facts) := fun m g _ =>
  (θ_run _ _ _).mono (fun r h => ⟨fun c => ⟨(h c).2.2.2.1, (h c).2.2.2.2⟩, sem_eq_zero_of_no_sems (by decide) r.2⟩)
    (Cert.ReferenceIdeal.Value.run (F := Ideal) m g)

end Cert.Proof

end
-- ==== Proof.Main.RefStages.lean ====
/-
  The reference's results as a composition of stages: the scaling vectors, the scaled weights, the groups' scales, the
  codes, the quantised weights, the losses and the packed codes.
-/
module

public import proofs.«01_k».proof.Proof.Gen.ReferenceIdeal.Run
public import Idealize.ShloMosaic.Lib.Pointwise

@[expose] public section

set_option maxRecDepth 16384

noncomputable section

namespace Cert.RefVal

open Cert.ReferenceIdeal Cert.ReferenceIdeal.Gen Cert.ReferenceIdeal.Value Idealize.ShloMosaic Idealize.ShloMosaic.TcCoe

variable {F : FTy → Type} [FloatOps F]

/-- The activations as one matrix. -/
def rX (x : Vec F S4x1024x2048 .bf16) : Vec F S4096x2048 .bf16 := shapeCast _ x shapeCasts_S4x1024x2048_S4096x2048

/-- The mean magnitudes of the columns. -/
def rMean (X : Vec F S4096x2048 .bf16) : Vec F S2048 .f32 :=
  Host.divf (Host.reduceAdd (Host.absf (extf .f32 X bitsLt_bf16_f32)) (constant S_ .f32 0x00000000#32) reducesTo_S4096x2048_S2048_d0 h_S_) (broadcastInDim S2048 ![] bcast_S_S2048 (constant S_ .f32 0x45800000#32))

/-- The powers of the mean magnitudes, bounded below. -/
def rPow (m : Vec F S2048 .f32) : Vec F S20x2048 .f32 :=
  maximumf (Host.powf (broadcastInDim S20x2048 ![0, 1] bcast_S1x2048_S20x2048_0_1 (broadcastInDim S1x2048 ![1] bcast_S2048_S1x2048_1 m)) (broadcastInDim S20x2048 ![0, 1] bcast_S20x1_S20x2048_0_1 (broadcastInDim S20x1 ![0] bcast_S20_S20x1_0 (Host.divf (sitofp .f32 (iotaInDim S20 32 0)) (broadcastInDim S20 ![] bcast_S_S20 (constant S_ .f32 0x41A00000#32)))))) (broadcastInDim S20x2048 ![] bcast_S_S20x2048 (constant S_ .f32 0x38D1B717#32))

/-- The scaling vectors. -/
def rS (u : Vec F S20x2048 .f32) : Vec F S20x2048 .f32 :=
  Host.divf u (broadcastInDim S20x2048 ![0, 1] bcast_S20x1_S20x2048_0_1 (Host.sqrt (mulf (broadcastInDim S20x1 ![0] bcast_S20_S20x1_0 (Host.reduce FloatOps.maximumf u (constant S_ .f32 0xFF800000#32) reducesTo_S20x2048_S20_d1 h_S_)) (broadcastInDim S20x1 ![0] bcast_S20_S20x1_0 (Host.reduce FloatOps.minimumf u (constant S_ .f32 0x7F800000#32) reducesTo_S20x2048_S20_d1 h_S_)))))

/-- The scaled weights, in groups. -/
def rV (s : Vec F S20x2048 .f32) (w : Vec F S8192x2048 .bf16) : Vec F S20x8192x16x128 .f32 :=
  shapeCast _ (mulf (broadcastInDim S20x8192x2048 ![0, 1, 2] bcast_S1x8192x2048_S20x8192x2048_0_1_2 (broadcastInDim S1x8192x2048 ![1, 2] bcast_S8192x2048_S1x8192x2048_1_2 (extf .f32 w bitsLt_bf16_f32))) (broadcastInDim S20x8192x2048 ![0, 1, 2] bcast_S20x1x2048_S20x8192x2048_0_1_2 (broadcastInDim S20x1x2048 ![0, 2] bcast_S20x2048_S20x1x2048_0_2 s))) shapeCasts_S20x8192x2048_S20x8192x16x128

/-- The largest magnitudes of the groups. -/
def rMax (v : Vec F S20x8192x16x128 .f32) : Vec F S20x8192x16 .f32 :=
  Host.reduce FloatOps.maximumf (Host.absf v) (constant S_ .f32 0xFF800000#32) reducesTo_S20x8192x16x128_S20x8192x16_d3 h_S_

/-- The groups' scales. -/
def rSc (a : Vec F S20x8192x16 .f32) : Vec F S20x8192x16 .f32 :=
  select (cmpf .oeq a (broadcastInDim S20x8192x16 ![] bcast_S_S20x8192x16 (constant S_ .f32 0x00000000#32))) (broadcastInDim S20x8192x16 ![] bcast_S_S20x8192x16 (constant S_ .f32 0x3F800000#32)) (Host.divf a (broadcastInDim S20x8192x16 ![] bcast_S_S20x8192x16 (constant S_ .f32 0x40E00000#32)))

/-- The codes, before the conversion to integers. -/
def rQ (v : Vec F S20x8192x16x128 .f32) (sc : Vec F S20x8192x16 .f32) : Vec F S20x8192x16x128 .f32 :=
  minimumf (broadcastInDim S20x8192x16x128 ![] bcast_S_S20x8192x16x128 (id (constant S_ .f32 0x40E00000#32))) (maximumf (broadcastInDim S20x8192x16x128 ![] bcast_S_S20x8192x16x128 (id (constant S_ .f32 0xC0E00000#32))) (Host.roundeven (Host.divf v (broadcastInDim S20x8192x16x128 ![0, 1, 2, 3] bcast_S20x8192x16x1_S20x8192x16x128_0_1_2_3 (broadcastInDim S20x8192x16x1 ![0, 1, 2] bcast_S20x8192x16_S20x8192x16x1_0_1_2 sc)))))

/-- The quantised weights. -/
def rWq (s : Vec F S20x2048 .f32) (sc : Vec F S20x8192x16 .f32) (q : Vec F S20x8192x16x128 .f32) : Vec F S20x8192x2048 .bf16 :=
  mulf (shapeCast _ (mulf (truncf .bf16 q bitsLt_bf16_f32) (broadcastInDim S20x8192x16x128 ![0, 1, 2, 3] bcast_S20x8192x16x1_S20x8192x16x128_0_1_2_3 (broadcastInDim S20x8192x16x1 ![0, 1, 2] bcast_S20x8192x16_S20x8192x16x1_0_1_2 (truncf .bf16 sc bitsLt_bf16_f32)))) shapeCasts_S20x8192x16x128_S20x8192x2048) (broadcastInDim S20x8192x2048 ![0, 1, 2] bcast_S20x1x2048_S20x8192x2048_0_1_2 (broadcastInDim S20x1x2048 ![0, 2] bcast_S20x2048_S20x1x2048_0_2 (truncf .bf16 (Host.divf (broadcastInDim S20x2048 ![] bcast_S_S20x2048 (constant S_ .f32 0x3F800000#32)) s) bitsLt_bf16_f32)))

/-- The differences of the outputs. -/
def rDiff (X : Vec F S4096x2048 .bf16) (w : Vec F S8192x2048 .bf16) (wq : Vec F S20x8192x2048 .bf16) : Vec F S20x4096x8192 .f32 :=
  subf (broadcastInDim S20x4096x8192 ![0, 1, 2] bcast_S1x4096x8192_S20x4096x8192_0_1_2 (broadcastInDim S1x4096x8192 ![1, 2] bcast_S4096x8192_S1x4096x8192_1_2 (Host.dotGeneral dot_S4096x2048_S8192x2048_S4096x8192_1_1_0_0_n_n none X w))) (transpose S20x4096x8192 [0, 2, 1] (Host.dotGeneral dot_S20x8192x2048_S4096x2048_S20x8192x4096_2_1_01_0_n_n none wq X) transposes_S20x8192x4096_S20x4096x8192_0_2_1)

/-- The losses. -/
def rLoss (d : Vec F S20x4096x8192 .f32) : Vec F S20x8192 .f32 :=
  Host.divf (Host.reduceAdd (mulf d d) (constant S_ .f32 0x00000000#32) reducesTo_S20x4096x8192_S20x8192_d1 h_S_) (broadcastInDim S20x8192 ![] bcast_S_S20x8192 (constant S_ .f32 0x45800000#32))

/-- The codes as integers, in pairs. -/
def rInt (q : Vec F S20x8192x16x128 .f32) : Vec F S20x8192x1024x2 .i32 := shapeCast _ (fptosi 32 q) shapeCasts_S20x8192x16x128_S20x8192x1024x2

/-- The packed codes. -/
def rPack (n : Vec F S20x8192x1024x2 .i32) : Vec F S20x8192x1024 .i8 :=
  trunci 8 (ori (andi (shapeCast _ (extractStridedSlice S20x8192x1024x1 ![0, 0, 0, 0] n slices_S20x8192x1024x2_S20x8192x1024x1_0_0_0_0) shapeCasts_S20x8192x1024x1_S20x8192x1024) (broadcastInDim S20x8192x1024 ![] bcast_S_S20x8192x1024 (constantI S_ 32 15#32))) (Host.shli (andi (shapeCast _ (extractStridedSlice S20x8192x1024x1 ![0, 0, 0, 1] n slices_S20x8192x1024x2_S20x8192x1024x1_0_0_0_1) shapeCasts_S20x8192x1024x1_S20x8192x1024) (broadcastInDim S20x8192x1024 ![] bcast_S_S20x8192x1024 (constantI S_ 32 15#32))) (broadcastInDim S20x8192x1024 ![] bcast_S_S20x8192x1024 (constantI S_ 32 4#32)))) natLt_8_32

section
variable (x : Vec F S4x1024x2048 .bf16) (w : Vec F S8192x2048 .bf16)
def sOf : Vec F S20x2048 .f32 := rS (rPow (rMean (rX x)))
def vOf : Vec F S20x8192x16x128 .f32 := rV (sOf x) w
def scOf : Vec F S20x8192x16 .f32 := rSc (rMax (vOf x w))
def qOf : Vec F S20x8192x16x128 .f32 := rQ (vOf x w) (scOf x w)
def wqOf : Vec F S20x8192x2048 .bf16 := rWq (sOf x) (scOf x w) (qOf x w)
def lossOf : Vec F S20x8192 .f32 := rLoss (rDiff (rX x) w (wqOf x w))
def codeOf : Vec F S20x8192x1024 .i8 := rPack (rInt (qOf x w))
end

variable (m : (ℓ : Loc nD τ sig) → Buf (Elt F) ℓ) (c : Dev nD)

theorem res2_eq : res_out2 m c = scOf (m ((c.tc : Thread nD τ).loc main_arg0)) (m ((c.tc : Thread nD τ).loc main_arg1)) := by
  unfold res_out2 res_main_v39 scOf rMax vOf sOf rSc rV rS rPow rMean rX; rfl
theorem res1_eq : res_out1 m c = codeOf (m ((c.tc : Thread nD τ).loc main_arg0)) (m ((c.tc : Thread nD τ).loc main_arg1)) := by
  unfold res_out1 res_main_v79 codeOf rPack rInt qOf rQ scOf rMax vOf sOf rSc rV rS rPow rMean rX; rfl
theorem res0_eq : res_out0 m c = lossOf (m ((c.tc : Thread nD τ).loc main_arg0)) (m ((c.tc : Thread nD τ).loc main_arg1)) := by
  unfold res_out0 res_main_v65 lossOf rLoss rDiff wqOf rWq qOf rQ scOf rMax vOf sOf rSc rV rS rPow rMean rX; rfl

end Cert.RefVal

end
-- ==== Proof.Main.RefVal.lean ====
/-
  The reference's stages read at an index, over the extended reals.
-/
module

public import proofs.«01_k».proof.Proof.Main.RefStages

@[expose] public section

set_option maxRecDepth 16384

noncomputable section

namespace Cert.RefVal

open Cert.ReferenceIdeal Cert.ReferenceIdeal.Gen Idealize.ShloMosaic

/-- Place `l` of group `g`. -/
abbrev kIx (g : Fin 16) (l : Fin 128) : Fin 2048 := ⟨g.val * 128 + l.val, by omega⟩
/-- The group of a place, and the place in it. -/
abbrev gIx (k : Fin 2048) : Fin 16 := ⟨k.val / 128, by omega⟩
abbrev lIx (k : Fin 2048) : Fin 128 := ⟨k.val % 128, by omega⟩

theorem rX_apply (x : Vec Ideal S4x1024x2048 .bf16) (t : Fin 4096) (k : Fin 2048) : rX x (ix2 t k) =
    x (ix3 (⟨t.val / 1024, by omega⟩ : Fin 4) (⟨t.val % 1024, by omega⟩ : Fin 1024) k) := by
  unfold rX; pointwise
theorem rMean_apply (X : Vec Ideal S4096x2048 .bf16) (k : Fin 2048) : rMean X (ix1 k) =
    Ideal.div (∑ t : Fin 4096, max (X (ix2 t k)) (-(X (ix2 t k)))) (Ideal.ofBits .f32 0x45800000#32) := by
  unfold rMean; pointwise; try rfl
theorem rPow_apply (m : Vec Ideal S2048 .f32) (i : Fin 20) (k : Fin 2048) : rPow m (ix2 i k) =
    max (Ideal.pow (m (ix1 k)) (Ideal.div ((((BitVec.ofNat 32 i.val).toInt : ℝ)) : EReal) (Ideal.ofBits .f32 0x41A00000#32))) (Ideal.ofBits .f32 0x38D1B717#32) := by
  unfold rPow; pointwise; try rfl
theorem rS_apply (u : Vec Ideal S20x2048 .f32) (i : Fin 20) (k : Fin 2048) : rS u (ix2 i k) =
    Ideal.div (u (ix2 i k)) (Ideal.sqrt (Finset.fold max (Ideal.ofBits .f32 0xFF800000#32) (fun x => u (ix2 i x)) Finset.univ *
      Finset.fold min (Ideal.ofBits .f32 0x7F800000#32) (fun x => u (ix2 i x)) Finset.univ)) := by
  unfold rS; pointwise; try rfl
theorem rV_apply (s : Vec Ideal S20x2048 .f32) (w : Vec Ideal S8192x2048 .bf16) (i : Fin 20) (o : Fin 8192) (g : Fin 16) (l : Fin 128) : rV s w (ix4 i o g l) =
    w (ix2 o (kIx g l)) * s (ix2 i (kIx g l)) := by
  unfold rV; pointwise; try rfl
theorem rMax_apply (v : Vec Ideal S20x8192x16x128 .f32) (i : Fin 20) (o : Fin 8192) (g : Fin 16) : rMax v (ix3 i o g) =
    Finset.fold max (Ideal.ofBits .f32 0xFF800000#32) (fun x => max (v (ix4 i o g x)) (-(v (ix4 i o g x)))) Finset.univ := by
  unfold rMax; pointwise; try rfl
theorem rSc_apply (a : Vec Ideal S20x8192x16 .f32) (i : Fin 20) (o : Fin 8192) (g : Fin 16) : rSc a (ix3 i o g) =
    (if a (ix3 i o g) = 0 then 1 else Ideal.div (a (ix3 i o g)) (Ideal.ofBits .f32 0x40E00000#32)) := by
  unfold rSc; pointwise; try rfl
theorem rQ_apply (v : Vec Ideal S20x8192x16x128 .f32) (sc : Vec Ideal S20x8192x16 .f32) (i : Fin 20) (o : Fin 8192) (g : Fin 16) (l : Fin 128) : rQ v sc (ix4 i o g l) =
    min (Ideal.ofBits .f32 0x40E00000#32) (max (Ideal.ofBits .f32 0xC0E00000#32)
      (Ideal.liftRound Ideal.roundHalfEven (Ideal.div (v (ix4 i o g l)) (sc (ix3 i o g))))) := by
  unfold rQ; pointwise; try rfl
theorem rWq_apply (s : Vec Ideal S20x2048 .f32) (sc : Vec Ideal S20x8192x16 .f32) (q : Vec Ideal S20x8192x16x128 .f32) (i : Fin 20) (o : Fin 8192) (k : Fin 2048) : rWq s sc q (ix3 i o k) =
    q (ix4 i o (gIx k) (lIx k)) * sc (ix3 i o (gIx k)) * Ideal.div 1 (s (ix2 i k)) := by
  unfold rWq; pointwise; try rfl
theorem rDiff_apply (X : Vec Ideal S4096x2048 .bf16) (w : Vec Ideal S8192x2048 .bf16) (wq : Vec Ideal S20x8192x2048 .bf16) (i : Fin 20) (t : Fin 4096) (o : Fin 8192) : rDiff X w wq (ix3 i t o) =
    ∑ k : Fin 2048, X (ix2 t k) * w (ix2 o k) - ∑ k : Fin 2048, wq (ix3 i o k) * X (ix2 t k) := by
  unfold rDiff; pointwise; try rfl
theorem rLoss_apply (d : Vec Ideal S20x4096x8192 .f32) (i : Fin 20) (o : Fin 8192) : rLoss d (ix2 i o) =
    Ideal.div (∑ t : Fin 4096, d (ix3 i t o) * d (ix3 i t o)) (Ideal.ofBits .f32 0x45800000#32) := by
  unfold rLoss; pointwise; try rfl
theorem rInt_apply (q : Vec Ideal S20x8192x16x128 .f32) (i : Fin 20) (o : Fin 8192) (j : Fin 1024) (b : Fin 2) : rInt q (ix4 i o j b) =
    Ideal.fptosi 32 (q (ix4 i o (⟨j.val / 64, by omega⟩ : Fin 16) (⟨j.val % 64 * 2 + b.val, by omega⟩ : Fin 128))) := by
  unfold rInt; pointwise; try rfl
theorem rPack_apply (n : Vec Ideal S20x8192x1024x2 .i32) (i : Fin 20) (o : Fin 8192) (j : Fin 1024) : rPack n (ix3 i o j) =
    BitVec.setWidth 8 (IntOp.ori (IntOp.andi (n (ix4 i o j 0)) 15#32)
      (IntOp.shli ArithUnit.host (IntOp.andi (n (ix4 i o j 1)) 15#32) 4#32)) := by
  unfold rPack; pointwise; try rfl
end Cert.RefVal

end
-- ==== Proof.Main.Blocks.lean ====
/-
  The input blocks of the three calls' grid points, read at an index.
-/
module

public import proofs.«01_k».proof.Proof.Main.Reg1
public import Idealize.ShloMosaic.Lib.Pointwise

@[expose] public section

set_option maxRecDepth 16384

noncomputable section

namespace Cert.KernelIdeal.Main

open Cert.KernelIdeal Cert.KernelIdeal.Gen Idealize.ShloMosaic

variable {F : FTy → Type} [FloatOps F]

theorem idxM : ∀ t : Fin grid2.N, win2_0.index t = ![0, 0] := by decide +kernel
theorem idxR : ∀ t : Fin grid2.N, win2_1.index t = ![0, 0] := by decide +kernel
theorem idxW : ∀ t : Fin grid2.N, win2_2.index t = ![t.val / 10, 0, 0] := by decide +kernel
theorem idxS : ∀ t : Fin grid2.N, win2_3.index t = ![t.val % 10, 0, 0] := by decide +kernel
theorem idxI : ∀ t : Fin grid2.N, win2_4.index t = ![t.val % 10, 0, 0] := by decide +kernel
theorem idxX : ∀ t : Fin grid0.N, win0_0.index t = ![0, t.val] := by decide +kernel
theorem idxXX : ∀ t : Fin grid0.N, win0_1.index t = ![0, 0] := by decide +kernel
theorem idxG : ∀ t : Fin grid1.N, win1_0.index t = ![t.val / 8, t.val % 8] := by decide +kernel
theorem idxGT : ∀ t : Fin grid1.N, win1_1.index t = ![t.val % 8, t.val / 8] := by decide +kernel

/-- The first point of the first call. -/
abbrev tz0 : Fin cfg0.N := ⟨0, by rw [show cfg0.N = 8 from N_0]; decide⟩

variable (V : (c : Dev nD) → VC F c) (c : Dev nD)

theorem bW_apply (t : Fin cfg2.N) (k : Fin 2048) (l : Fin 512) :
    bW V c t (ix3 0 k l) = (V c main_v20 : Vec F S16x2048x512 .bf16) (ix3 (⟨t.val / 10, by have := Nat.lt_of_lt_of_eq t.isLt N_2; omega⟩ : Fin 16) k l) := by
  unfold bW iblk
  show ((cfg2.win 2).blk t).view.read (Elt F) (V c main_v20) _ = _
  generalize V c main_v20 = X
  refine congrArg X (funext fun a => Fin.ext ?_)
  refine ((cfg2.win 2).rect_emb_val t _ a).trans ?_
  have h : (cfg2.win 2).index t = _ := idxW t
  rw [h]
  fin_cases a
  · exact (Nat.add_zero _).trans (Nat.mul_one _)
  · exact Nat.zero_add _
  · exact Nat.zero_add _

theorem bS_apply (t : Fin cfg2.N) (p : Fin 2) (k : Fin 2048) (l : Fin 128) :
    bS V c t (ix3 p k l) = (V c main_v15 : Vec F S20x2048x128 .f32) (ix3 (⟨2 * (t.val % 10) + p.val, by omega⟩ : Fin 20) k l) := by
  unfold bS iblk
  show ((cfg2.win 3).blk t).view.read (Elt F) (V c main_v15) _ = _
  generalize V c main_v15 = X
  refine congrArg X (funext fun a => Fin.ext ?_)
  refine ((cfg2.win 3).rect_emb_val t _ a).trans ?_
  have h : (cfg2.win 3).index t = _ := idxS t
  rw [h]
  fin_cases a
  · show t.val % 10 * 2 + p.val = 2 * (t.val % 10) + p.val; omega
  · exact Nat.zero_add _
  · exact Nat.zero_add _

theorem bI_apply (t : Fin cfg2.N) (p : Fin 2) (k : Fin 2048) (l : Fin 128) :
    bI V c t (ix3 p k l) = (V c main_v17 : Vec F S20x2048x128 .bf16) (ix3 (⟨2 * (t.val % 10) + p.val, by omega⟩ : Fin 20) k l) := by
  unfold bI iblk
  show ((cfg2.win 4).blk t).view.read (Elt F) (V c main_v17) _ = _
  generalize V c main_v17 = X
  refine congrArg X (funext fun a => Fin.ext ?_)
  refine ((cfg2.win 4).rect_emb_val t _ a).trans ?_
  have h : (cfg2.win 4).index t = _ := idxI t
  rw [h]
  fin_cases a
  · show t.val % 10 * 2 + p.val = 2 * (t.val % 10) + p.val; omega
  · exact Nat.zero_add _
  · exact Nat.zero_add _

theorem bM_apply (j k : Fin 2048) :
    bM V c (ix2 j k) = (V c main_v2_0 : Vec F S2048x2048 .bf16) (ix2 j k) := by
  unfold bM iblk
  show ((cfg2.win 0).blk tz).view.read (Elt F) (V c main_v2_0) _ = _
  generalize V c main_v2_0 = X
  refine congrArg X (funext fun a => Fin.ext ?_)
  refine ((cfg2.win 0).rect_emb_val tz _ a).trans ?_
  have h : (cfg2.win 0).index tz = _ := idxM tz
  rw [h]
  fin_cases a
  · exact Nat.zero_add _
  · exact Nat.zero_add _

theorem bR_apply (j : Fin 2048) (l : Fin 128) :
    bR V c (ix2 j l) = (V c main_v2_1 : Vec F S2048x128 .f32) (ix2 j l) := by
  unfold bR iblk
  show ((cfg2.win 1).blk tz).view.read (Elt F) (V c main_v2_1) _ = _
  generalize V c main_v2_1 = X
  refine congrArg X (funext fun a => Fin.ext ?_)
  refine ((cfg2.win 1).rect_emb_val tz _ a).trans ?_
  have h : (cfg2.win 1).index tz = _ := idxR tz
  rw [h]
  fin_cases a
  · exact Nat.zero_add _
  · exact Nat.zero_add _

theorem bX_apply (t : Fin cfg0.N) (r : Fin 4096) (k : Fin 256) :
    bX V c t (ix2 r k) = (V c main_v0 : Vec F S4096x2048 .bf16) (ix2 r (⟨t.val * 256 + k.val, by have := Nat.lt_of_lt_of_eq t.isLt N_0; omega⟩ : Fin 2048)) := by
  unfold bX iblk0
  show ((cfg0.win 0).blk t).view.read (Elt F) (V c main_v0) _ = _
  generalize V c main_v0 = X
  refine congrArg X (funext fun a => Fin.ext ?_)
  refine ((cfg0.win 0).rect_emb_val t _ a).trans ?_
  have h : (cfg0.win 0).index t = _ := idxX t
  rw [h]
  fin_cases a
  · exact Nat.zero_add _
  · rfl

theorem bXX_apply (r : Fin 4096) (k : Fin 2048) :
    bXX V c (ix2 r k) = (V c main_v0 : Vec F S4096x2048 .bf16) (ix2 r k) := by
  unfold bXX iblk0
  show ((cfg0.win 1).blk tz0).view.read (Elt F) (V c main_v0) _ = _
  generalize V c main_v0 = X
  refine congrArg X (funext fun a => Fin.ext ?_)
  refine ((cfg0.win 1).rect_emb_val tz0 _ a).trans ?_
  have h : (cfg0.win 1).index tz0 = _ := idxXX tz0
  rw [h]
  fin_cases a
  · exact Nat.zero_add _
  · exact Nat.zero_add _

theorem bG_apply (t : Fin cfg1.N) (r k : Fin 256) :
    bG V c t (ix2 r k) = (V c main_v1 : Vec F S2048x2048 .f32) (ix2 (⟨t.val / 8 * 256 + r.val, by have := Nat.lt_of_lt_of_eq t.isLt N_1; omega⟩ : Fin 2048) (⟨t.val % 8 * 256 + k.val, by have := Nat.lt_of_lt_of_eq t.isLt N_1; omega⟩ : Fin 2048)) := by
  unfold bG iblk1
  show ((cfg1.win 0).blk t).view.read (Elt F) (V c main_v1) _ = _
  generalize V c main_v1 = X
  refine congrArg X (funext fun a => Fin.ext ?_)
  refine ((cfg1.win 0).rect_emb_val t _ a).trans ?_
  have h : (cfg1.win 0).index t = _ := idxG t
  rw [h]
  fin_cases a
  · rfl
  · rfl

theorem bGT_apply (t : Fin cfg1.N) (r k : Fin 256) :
    bGT V c t (ix2 r k) = (V c main_v1 : Vec F S2048x2048 .f32) (ix2 (⟨t.val % 8 * 256 + r.val, by have := Nat.lt_of_lt_of_eq t.isLt N_1; omega⟩ : Fin 2048) (⟨t.val / 8 * 256 + k.val, by have := Nat.lt_of_lt_of_eq t.isLt N_1; omega⟩ : Fin 2048)) := by
  unfold bGT iblk1
  show ((cfg1.win 1).blk t).view.read (Elt F) (V c main_v1) _ = _
  generalize V c main_v1 = X
  refine congrArg X (funext fun a => Fin.ext ?_)
  refine ((cfg1.win 1).rect_emb_val t _ a).trans ?_
  have h : (cfg1.win 1).index t = _ := idxGT t
  rw [h]
  fin_cases a
  · rfl
  · rfl

end Cert.KernelIdeal.Main

end
-- ==== Proof.Main.HostVal.lean ====
/-
  The host operations' values, over the extended reals: the loop's scaling vectors are the reference's, and the arrays
  that the calls read and the results are laid out from them.
-/
module

public import proofs.«01_k».proof.Proof.Main.Chain
public import proofs.«01_k».proof.Proof.Main.RefVal
public import proofs.«01_k».proof.Proof.Main.Blocks

@[expose] public section

set_option maxRecDepth 16384

noncomputable section

namespace Cert.KernelIdeal.Main

open Cert.KernelIdeal Cert.KernelIdeal.Gen Cert.KernelIdeal.Gen.Cond Idealize.ShloMosaic Idealize.ShloMosaic.TcCoe Idealize.ShloMosaic.StableHlo

section
variable {F : FTy → Type} [FloatOps F]

/-- The powers of the mean magnitudes at one exponent, bounded below. -/
def hPow (mn : Vec F S2048 .f32) (e : Vec F S_ .i32) : Vec F S2048 .f32 :=
  maximumf (Host.powf mn (broadcastInDim S2048 ![] bcast_S_S2048 (Host.divf (sitofp .f32 e) (constant S_ .f32 0x41A00000#32))))
    (broadcastInDim S2048 ![] bcast_S_S2048 (constant S_ .f32 0x38D1B717#32))
/-- A scaling vector. -/
def hRow (u : Vec F S2048 .f32) : Vec F S2048 .f32 :=
  Host.divf u (broadcastInDim S2048 ![] bcast_S_S2048 (Host.sqrt (mulf
    (Host.reduce FloatOps.maximumf u (constant S_ .f32 0xFF800000#32) reducesTo_S2048_S_d0 h_S_)
    (Host.reduce FloatOps.minimumf u (constant S_ .f32 0x7F800000#32) reducesTo_S2048_S_d0 h_S_))))
/-- The counter's entry of the list of exponents. -/
def hIdx (io : Vec F S20 .i32) (k : Vec F S_ .i32) : Vec F S_ .i32 :=
  shapeCast S_ (Host.dynamicSlice S1 io (fun _ => (k (Shape.Idx.first h_S_)).toInt) sliceFits_S20_S1) shapeCasts_S1_S_
/-- A vector put in as the counter's row. -/
def hPut (s : Vec F S20x2048 .f32) (row : Vec F S2048 .f32) (k : Vec F S_ .i32) : Vec F S20x2048 .f32 :=
  Host.dynamicUpdateSlice s (broadcastInDim S1x2048 ![1] bcast_S2048_S1x2048_1 row)
    ![(k (Shape.Idx.first h_S_)).toInt, 0] updateFits_S20x2048_S1x2048

theorem step0 (Y : Valuation τ sig (Elt F)) : after while0Ops0 Y (Proc.devRef .tc main_while0b_v30)
    = hIdx (Y (Proc.devRef .tc main_v10_0)) (Y (Proc.devRef .tc main_v10_2)) := by
  after_results
  exact congrArg (fun st => shapeCast S_ (Host.dynamicSlice S1 _ st _) shapeCasts_S1_S_) (funext fun a => by fin_cases a; rfl)
set_option maxHeartbeats 2000000 in
theorem step1 (Y : Valuation τ sig (Elt F)) : after while0Ops0_1 Y (Proc.devRef .tc main_while0b_v42)
    = hRow (hPow (Y (Proc.devRef .tc main_v10_1)) (Y (Proc.devRef .tc main_while0b_v30))) := by
  after_results
  rfl
theorem step2 (Y : Valuation τ sig (Elt F)) : after while0Ops0_2 Y (Proc.devRef .tc main_while0b_v43)
    = hPut (Y (Proc.devRef .tc main_v10_3)) (Y (Proc.devRef .tc main_while0b_v42)) (Y (Proc.devRef .tc main_v10_2)) := by
  after_results
  exact congrArg (fun st => Host.dynamicUpdateSlice _ _ st _) (funext fun a => by fin_cases a <;> rfl)
theorem step3 (Y : Valuation τ sig (Elt F)) : after while0Ops0_3 Y (Proc.devRef .tc main_v10_3)
    = Y (Proc.devRef .tc main_while0b_v43) := by
  after_results
  rfl
theorem step (X : Valuation τ sig (Elt F)) : afterL bodyI X (Proc.devRef .tc main_v10_3) =
    hPut (X (Proc.devRef .tc main_v10_3)) (hRow (hPow (X (Proc.devRef .tc main_v10_1)) (hIdx (X (Proc.devRef .tc main_v10_0)) (X (Proc.devRef .tc main_v10_2)))))
      (X (Proc.devRef .tc main_v10_2)) := by
  simp only [afterL_cons, afterL_nil]
  rw [step3, step2, step1, step0, after_of_writes_sub while0Ops0_1 _ b1_writes (r := main_v10_3) (by decide), after_of_writes_sub while0Ops0 _ b0_writes (r := main_v10_3) (by decide),
    after_of_writes_sub while0Ops0_1 _ b1_writes (r := main_v10_2) (by decide), after_of_writes_sub while0Ops0 _ b0_writes (r := main_v10_2) (by decide),
    after_of_writes_sub while0Ops0 _ b0_writes (r := main_v10_1) (by decide)]
end

section
variable {F : FTy → Type} [FloatOps F]
/-- The weights in tiles. -/
def hWt (w : Vec F S8192x2048 .bf16) : Vec F S16x2048x512 .bf16 :=
  shapeCast S16x2048x512 (transpose S16x2048x4x128 [0, 3, 2, 1] (shapeCast S16x128x4x2048 w shapeCasts_S8192x2048_S16x128x4x2048) transposes_S16x128x4x2048_S16x2048x4x128_0_3_2_1) shapeCasts_S16x2048x4x128_S16x2048x512
/-- The scaling vectors along the lanes. -/
def hSb (s : Vec F S20x2048 .f32) : Vec F S20x2048x128 .f32 :=
  broadcastInDim S20x2048x128 ![0, 1, 2] bcast_S20x2048x1_S20x2048x128_0_1_2 (broadcastInDim S20x2048x1 ![0, 1] bcast_S20x2048_S20x2048x1_0_1 s)
/-- Their inverses along the lanes. -/
def hIb (s : Vec F S20x2048 .f32) : Vec F S20x2048x128 .bf16 :=
  broadcastInDim S20x2048x128 ![0, 1, 2] bcast_S20x2048x1_S20x2048x128_0_1_2 (broadcastInDim S20x2048x1 ![0, 1] bcast_S20x2048_S20x2048x1_0_1
    (truncf .bf16 (Host.divf (broadcastInDim S20x2048 ![] bcast_S_S20x2048 (constant S_ .f32 0x3F800000#32)) s) bitsLt_bf16_f32))
/-- The losses laid out. -/
def hLo (y : Vec F S321x1x512 .f32) : Vec F S20x8192 .f32 :=
  shapeCast S20x8192 (transpose S20x16x128x4 [1, 0, 3, 2] (shapeCast S16x20x4x128 (shapeCast S320x512 (extractStridedSlice S320x1x512 ![1, 0, 0] y slices_S321x1x512_S320x1x512_1_0_0) shapeCasts_S320x1x512_S320x512) shapeCasts_S320x512_S16x20x4x128) transposes_S16x20x4x128_S20x16x128x4_1_0_3_2) shapeCasts_S20x16x128x4_S20x8192
/-- The scales laid out. -/
def hSo (y : Vec F S20x16x16x512 .f32) : Vec F S20x8192x16 .f32 :=
  shapeCast S20x8192x16 (transpose S20x16x128x4x16 [0, 1, 4, 3, 2] (shapeCast S20x16x16x4x128 y shapeCasts_S20x16x16x512_S20x16x16x4x128) transposes_S20x16x16x4x128_S20x16x128x4x16_0_1_4_3_2) shapeCasts_S20x16x128x4x16_S20x8192x16
end

theorem hWt_apply (w : Vec Ideal S8192x2048 .bf16) (t : Fin 16) (k : Fin 2048) (l : Fin 512) :
    hWt w (ix3 t k l) = w (ix2 (⟨t.val * 512 + l.val % 128 * 4 + l.val / 128, by omega⟩ : Fin 8192) k) := by
  unfold hWt; pointwise
theorem hSb_apply (s : Vec Ideal S20x2048 .f32) (i : Fin 20) (k : Fin 2048) (l : Fin 128) : hSb s (ix3 i k l) = s (ix2 i k) := by
  unfold hSb; pointwise
theorem hIb_apply (s : Vec Ideal S20x2048 .f32) (i : Fin 20) (k : Fin 2048) (l : Fin 128) : hIb s (ix3 i k l) = Ideal.div 1 (s (ix2 i k)) := by
  unfold hIb; pointwise
theorem hLo_apply (y : Vec Ideal S321x1x512 .f32) (i : Fin 20) (o : Fin 8192) :
    hLo y (ix2 i o) = y (ix3 (⟨1 + (o.val / 512 * 20 + i.val), by omega⟩ : Fin 321) 0 (⟨o.val % 4 * 128 + o.val / 4 % 128, by omega⟩ : Fin 512)) := by
  unfold hLo; pointwise
theorem hSo_apply (y : Vec Ideal S20x16x16x512 .f32) (i : Fin 20) (o : Fin 8192) (g : Fin 16) :
    hSo y (ix3 i o g) = y (ix4 i (⟨o.val / 512, by omega⟩ : Fin 16) g (⟨o.val % 4 * 128 + o.val / 4 % 128, by omega⟩ : Fin 512)) := by
  unfold hSo; pointwise
theorem hPow_apply (mn : Vec Ideal S2048 .f32) (e : Vec Ideal S_ .i32) (k : Fin 2048) : hPow mn e (ix1 k) =
    max (Ideal.pow (mn (ix1 k)) (Ideal.div ((((e ix0 : BitVec 32).toInt : ℝ)) : EReal) (Ideal.ofBits .f32 0x41A00000#32))) (Ideal.ofBits .f32 0x38D1B717#32) := by
  unfold hPow; pointwise; try rfl
theorem hRow_apply (u : Vec Ideal S2048 .f32) (k : Fin 2048) : hRow u (ix1 k) =
    Ideal.div (u (ix1 k)) (Ideal.sqrt (Finset.fold max (Ideal.ofBits .f32 0xFF800000#32) (fun k => u (ix1 k)) Finset.univ *
      Finset.fold min (Ideal.ofBits .f32 0x7F800000#32) (fun k => u (ix1 k)) Finset.univ)) := by
  unfold hRow; pointwise; try rfl
theorem hIdx_apply (io : Vec Ideal S20 .i32) (k : Vec Ideal S_ .i32) (n : Fin 20) (hk : (k (Shape.Idx.first h_S_) : BitVec 32).toInt = n.val) (j : S_.Idx) :
    hIdx io k j = io (ix1 n) := by
  have e0 : ∀ p, Host.clampedStart S20 S1 p (fun _ => (k (Shape.Idx.first h_S_) : BitVec 32).toInt) 0 = n.val := fun p =>
    Host.clampedStart_of_le p _ 0 n.val hk (by show n.val + 1 ≤ 20; omega)
  unfold hIdx; pointwise
  simp only [e0]
theorem hPut_apply (s : Vec Ideal S20x2048 .f32) (row : Vec Ideal S2048 .f32) (k : Vec Ideal S_ .i32) (n : Fin 20) (hk : (k (Shape.Idx.first h_S_) : BitVec 32).toInt = n.val)
    (i : Fin 20) (l : Fin 2048) : hPut s row k (ix2 i l) = if i = n then row (ix1 l) else s (ix2 i l) := by
  have e0 : ∀ p, Host.clampedStart S20x2048 S1x2048 p ![(k (Shape.Idx.first h_S_) : BitVec 32).toInt, 0] 0 = n.val := fun p =>
    Host.clampedStart_of_le p _ 0 n.val hk (by show n.val + 1 ≤ 20; omega)
  have e1 : ∀ p, Host.clampedStart S20x2048 S1x2048 p ![(k (Shape.Idx.first h_S_) : BitVec 32).toInt, 0] 1 = 0 := fun p =>
    Host.clampedStart_of_le p _ 1 0 rfl (by show 0 + 2048 ≤ 2048; omega)
  unfold hPut; pointwise
  simp only [e0, e1]
  by_cases h : i = n
  · subst h
    rw [dif_pos ⟨⟨le_rfl, Nat.lt_succ_self _⟩, Nat.zero_le _⟩, if_pos rfl]
    rfl
  · have : ¬ ((n.val ≤ i.val ∧ i.val < n.val + 1) ∧ 0 ≤ l.val) := fun hh => h (Fin.ext (by omega))
    rw [dif_neg this, if_neg h]

/-- A scaling vector of the loop is the reference's row. -/
theorem hRow_ref (mn : Vec Ideal S2048 .f32) (e : Vec Ideal S_ .i32) (i : Fin 20) (he : e ix0 = BitVec.ofNat 32 i.val) (l : Fin 2048) :
    hRow (hPow mn e) (ix1 l) = RefVal.rS (RefVal.rPow mn) (ix2 i l) := by
  rw [hRow_apply, RefVal.rS_apply]
  simp only [hPow_apply, RefVal.rPow_apply, he]

section
variable (m : (ℓ : Loc nD τ sig) → Buf (Elt Ideal) ℓ) (c : Dev nD)

/-- The activations and the weights as launched. -/
abbrev argX : Vec Ideal S4x1024x2048 .bf16 := m ((c : Thread nD τ).loc main_arg0)
abbrev argW : Vec Ideal S8192x2048 .bf16 := m ((c : Thread nD τ).loc main_arg1)

theorem A1_v0 : A1 m c (Proc.devRef .tc main_v0) = RefVal.rX (argX m c) := by
  unfold A1
  after_results
  rfl
theorem A2_v0 : A2 m c (Proc.devRef .tc main_v0) = RefVal.rX (argX m c) := (A2_of m c main_v0 (by decide)).trans (A1_v0 m c)
theorem A3_v0 : A3 m c (Proc.devRef .tc main_v0) = RefVal.rX (argX m c) := (A3_of m c main_v0 (by decide)).trans (A2_v0 m c)
theorem A4_v10_0 : A4 m c (Proc.devRef .tc main_v10_0) = iotaInDim S20 32 0 := by
  unfold A4
  after_results
  rfl
theorem A4_v10_1 : A4 m c (Proc.devRef .tc main_v10_1) = RefVal.rMean (RefVal.rX (argX m c)) := by
  rw [← A3_v0]
  unfold A4
  after_results
  rfl

theorem toInt_iv : ∀ k : Fin 20, (Scf.iv 0#32 1#32 k.val).toInt = k.val := by decide

/-- The rows that the loop has put in are the reference's scaling vectors. -/
theorem Wk_rows : ∀ (k : ℕ), k ≤ 20 → ∀ i : Fin 20, i.val < k → ∀ l : Fin 2048,
    (Wk m k c (Proc.devRef .tc main_v10_3) : Vec Ideal S20x2048 .f32) (ix2 i l) = RefVal.sOf (argX m c) (ix2 i l)
  | 0 => fun _ i hi => absurd hi (Nat.not_lt_zero _)
  | k + 1 => fun hk i hi l => by
    rw [Wk_succ, step, after_of_writes_sub condOps _ condOps_writes (r := main_v10_3) (by decide), after_of_writes_sub condOps _ condOps_writes (r := main_v10_2) (by decide),
      after_of_writes_sub condOps _ condOps_writes (r := main_v10_1) (by decide), after_of_writes_sub condOps _ condOps_writes (r := main_v10_0) (by decide),
      Wk_keep m main_v10_1 (by decide) (by decide), Wk_keep m main_v10_0 (by decide) (by decide), A4_v10_0, A4_v10_1, Wk_ctr]
    have hc : (((fun _ => Scf.iv 0#32 1#32 k) : Vec Ideal S_ .i32) (Shape.Idx.first h_S_) : BitVec 32).toInt = (⟨k, by omega⟩ : Fin 20).val := toInt_iv ⟨k, by omega⟩
    rw [hPut_apply _ _ _ ⟨k, by omega⟩ hc]
    by_cases h : i = ⟨k, by omega⟩
    · rw [if_pos h]
      rw [h]
      refine hRow_ref _ _ ⟨k, by omega⟩ ?_ l
      rw [hIdx_apply _ _ ⟨k, by omega⟩ hc]
      rfl
    · rw [if_neg h]
      exact Wk_rows k (by omega) i (by have : i.val ≠ k := fun e => h (Fin.ext e); omega) l

theorem A5_v10_3 (i : Fin 20) (l : Fin 2048) : (A5 m c (Proc.devRef .tc main_v10_3) : Vec Ideal S20x2048 .f32) (ix2 i l) = RefVal.sOf (argX m c) (ix2 i l) := by
  unfold A5
  rw [after_of_writes_sub condOps _ condOps_writes (r := main_v10_3) (by decide)]
  exact Wk_rows m c 20 le_rfl i i.isLt l

theorem A5_arg1 : A5 m c (Proc.devRef .tc main_arg1) = argW m c := by
  have e4 : A4 m c (Proc.devRef .tc main_arg1) = A3 m c (Proc.devRef .tc main_arg1) := StableHlo.after_of_writes_sub hostOps2 _ hostOps2_writes (by decide)
  have e1 : A1 m c (Proc.devRef .tc main_arg1) = V0 m c (Proc.devRef .tc main_arg1) := StableHlo.after_of_writes_sub hostOps0 _ hostOps0_writes (by decide)
  exact (A5_keep m main_arg1 (by decide) (by decide) c).trans (e4.trans ((A3_of m c main_arg1 (by decide)).trans ((A2_of m c main_arg1 (by decide)).trans e1)))

theorem A6_v20 (t : Fin 16) (k : Fin 2048) (l : Fin 512) : (A6 m c (Proc.devRef .tc main_v20) : Vec Ideal S16x2048x512 .bf16) (ix3 t k l)
    = argW m c (ix2 (⟨t.val * 512 + l.val % 128 * 4 + l.val / 128, by omega⟩ : Fin 8192) k) := by
  have e : A6 m c (Proc.devRef .tc main_v20) = hWt (A5 m c (Proc.devRef .tc main_arg1)) := by
    unfold A6
    after_results
    rfl
  rw [e, A5_arg1, hWt_apply]
theorem A6_v15 (i : Fin 20) (k : Fin 2048) (l : Fin 128) : (A6 m c (Proc.devRef .tc main_v15) : Vec Ideal S20x2048x128 .f32) (ix3 i k l)
    = RefVal.sOf (argX m c) (ix2 i k) := by
  have e : A6 m c (Proc.devRef .tc main_v15) = hSb (A5 m c (Proc.devRef .tc main_v10_3)) := by
    unfold A6
    after_results
    rfl
  rw [e, hSb_apply, A5_v10_3]
theorem A6_v17 (i : Fin 20) (k : Fin 2048) (l : Fin 128) : (A6 m c (Proc.devRef .tc main_v17) : Vec Ideal S20x2048x128 .bf16) (ix3 i k l)
    = Ideal.div 1 (RefVal.sOf (argX m c) (ix2 i k)) := by
  have e : A6 m c (Proc.devRef .tc main_v17) = hIb (A5 m c (Proc.devRef .tc main_v10_3)) := by
    unfold A6
    after_results
    rfl
  rw [e, hIb_apply, A5_v10_3]

/-- The matrix and the remainders, kept from the second call to the third. -/
theorem A6_v2 (r : Ref sig .tc) (h3 : r ∉ hostOps2_W) (h4 : r ∉ b0_W ++ b1_W ++ b2_W ++ b3_W) (h4' : r ∉ condOps_W) (h5 : r ∉ hostOps2_1_W) :
    A6 m c (Proc.devRef .tc r) = A3 m c (Proc.devRef .tc r) := by
  have e6 : A6 m c (Proc.devRef .tc r) = A5 m c (Proc.devRef .tc r) := StableHlo.after_of_writes_sub hostOps2_1 _ hostOps2_1_writes h5
  have e4 : A4 m c (Proc.devRef .tc r) = A3 m c (Proc.devRef .tc r) := StableHlo.after_of_writes_sub hostOps2 _ hostOps2_writes h3
  exact e6.trans ((A5_keep m r h4 h4' c).trans e4)
theorem A6_v2_0 : A6 m c (Proc.devRef .tc main_v2_0) = mArr (vc (A2 m)) c := (A6_v2 m c main_v2_0 (by decide) (by decide) (by decide) (by decide)).trans (A3_v2_0 m c)
theorem A6_v2_1 : A6 m c (Proc.devRef .tc main_v2_1) = rArr (vc (A2 m)) c := (A6_v2 m c main_v2_1 (by decide) (by decide) (by decide) (by decide)).trans (A3_v2_1 m c)

/-! ## The results -/

theorem A8_v26 : A8 m c (Proc.devRef .tc main_v26) = hLo (lossArr (vc (A6 m)) c) := by
  rw [← A7_v21_0]
  unfold A8
  after_results
  rfl
theorem A8_v29 : A8 m c (Proc.devRef .tc main_v29) = hSo (scalesArr (vc (A6 m)) c) := by
  rw [← A7_v21_2]
  unfold A8
  after_results
  rfl
theorem A8_v21_1 : A8 m c (Proc.devRef .tc main_v21_1) = codesArr (vc (A6 m)) c := by
  rw [← A7_v21_1]
  exact StableHlo.after_of_writes_sub hostOps3 _ hostOps3_writes (by decide)
end

end Cert.KernelIdeal.Main

end
-- ==== Proof.Main.Scalars.lean ====
/-
  Facts about single extended reals and words: constants, rounding inside a clip, the codes' bits, the packing of nibbles.
-/
module

public import Idealize.ShloMosaic.Lib.Pointwise

@[expose] public section

set_option maxRecDepth 16384

noncomputable section

namespace Cert.Scal

open Idealize.ShloMosaic

theorem c7 : Ideal.ofBits .f32 0x40E00000#32 = ((7 : ℝ) : EReal) := by
  simp [Ideal.ofBits, Ideal.ieee, -EReal.coe_mul]; norm_num
theorem cm7 : Ideal.ofBits .f32 0xC0E00000#32 = ((-7 : ℝ) : EReal) := by
  simp [Ideal.ofBits, Ideal.ieee, -EReal.coe_mul, -EReal.coe_neg]; norm_num
theorem c2 : Ideal.ofBits .f32 0x40000000#32 = ((2 : ℝ) : EReal) := by
  simp [Ideal.ofBits, Ideal.ieee, -EReal.coe_mul]; norm_num
theorem c4096 : Ideal.ofBits .f32 0x45800000#32 = ((4096 : ℝ) : EReal) := by
  simp [Ideal.ofBits, Ideal.ieee, -EReal.coe_mul]; norm_num
theorem cInv4096 : Ideal.ofBits .f32 0x39800000#32 = ((1 / 4096 : ℝ) : EReal) := by
  simp [Ideal.ofBits, Ideal.ieee, -EReal.coe_mul]; norm_num
theorem c20 : Ideal.ofBits .f32 0x41A00000#32 = ((20 : ℝ) : EReal) := by
  simp [Ideal.ofBits, Ideal.ieee, -EReal.coe_mul]; norm_num
theorem cNegInf : Ideal.ofBits .f32 0xFF800000#32 = (⊥ : EReal) := by
  simp [Ideal.ofBits, Ideal.ieee]
theorem cInf : Ideal.ofBits .f32 0x7F800000#32 = (⊤ : EReal) := by
  simp [Ideal.ofBits, Ideal.ieee]
/-- The lower bound of the powers is a positive number. -/
theorem cLow : ∃ r : ℝ, 0 < r ∧ Ideal.ofBits .f32 0x38D1B717#32 = (r : EReal) := by
  refine ⟨13743895 * (2 : ℝ) ^ (-37 : ℤ), by positivity, ?_⟩
  simp [Ideal.ofBits, Ideal.ieee, -EReal.coe_mul]

/-! ## Rounding inside a clip -/

theorem rhe_le {r : ℝ} {n : ℤ} (h : r ≤ n) : Ideal.roundHalfEven r ≤ n := by
  have h0 := Int.floor_le r
  have hf : ⌊r⌋ ≤ n := by exact_mod_cast h0.trans h
  unfold Ideal.roundHalfEven
  dsimp only
  rcases hf.lt_or_eq with hl | he
  · split_ifs <;> omega
  · have : r - (⌊r⌋ : ℤ) < 1 / 2 := by rw [he]; linarith
    rw [if_pos this]; exact hf
theorem le_rhe {r : ℝ} {n : ℤ} (h : (n : ℝ) ≤ r) : n ≤ Ideal.roundHalfEven r := by
  have hf : n ≤ ⌊r⌋ := Int.le_floor.mpr h
  unfold Ideal.roundHalfEven
  dsimp only
  split_ifs <;> omega
theorem rhe_int (n : ℤ) : Ideal.roundHalfEven (n : ℝ) = n := le_antisymm (rhe_le le_rfl) (le_rhe le_rfl)

/-- A rounded number clipped to whole bounds. -/
theorem clip_cases (z : EReal) : ∃ n : ℤ, -7 ≤ n ∧ n ≤ 7 ∧
    min ((7 : ℝ) : EReal) (max ((-7 : ℝ) : EReal) (Ideal.liftRound Ideal.roundHalfEven z)) = ((n : ℝ) : EReal) ∧
    Ideal.liftRound Ideal.roundHalfEven (min ((7 : ℝ) : EReal) (max ((-7 : ℝ) : EReal) z)) = ((n : ℝ) : EReal) := by
  have e7 : Ideal.liftRound Ideal.roundHalfEven ((7 : ℝ) : EReal) = ((7 : ℝ) : EReal) := by
    have := rhe_int 7; simp only [Int.cast_ofNat] at this
    rw [Ideal.liftRound_coe, this]; norm_num
  have em7 : Ideal.liftRound Ideal.roundHalfEven ((-7 : ℝ) : EReal) = ((-7 : ℝ) : EReal) := by
    have := rhe_int (-7); simp only [Int.cast_neg, Int.cast_ofNat] at this
    rw [Ideal.liftRound_coe, this]; norm_num
  have l7 : ((-7 : ℝ) : EReal) ≤ ((7 : ℝ) : EReal) := EReal.coe_le_coe_iff.mpr (by norm_num)
  induction z using EReal.rec with
  | bot => refine ⟨-7, by omega, by omega, ?_, ?_⟩ <;> simp [Ideal.liftRound_bot, -EReal.coe_neg, em7, min_eq_right l7]
  | top => refine ⟨7, by omega, by omega, ?_, ?_⟩ <;> simp [Ideal.liftRound_top, -EReal.coe_neg, e7]
  | coe r =>
    rw [Ideal.liftRound_coe]
    rcases le_total r (-7) with h | h
    · have h1 : Ideal.roundHalfEven r ≤ -7 := rhe_le (by exact_mod_cast h)
      have h1' : ((Ideal.roundHalfEven r : ℝ) : EReal) ≤ ((-7 : ℝ) : EReal) := EReal.coe_le_coe_iff.mpr (by exact_mod_cast h1)
      have h2 : (r : EReal) ≤ ((-7 : ℝ) : EReal) := EReal.coe_le_coe_iff.mpr h
      refine ⟨-7, by omega, by omega, ?_, ?_⟩
      · rw [max_eq_left h1', min_eq_right l7]; norm_num
      · rw [max_eq_left h2, min_eq_right l7, em7]; norm_num
    · have h2 : ((-7 : ℝ) : EReal) ≤ (r : EReal) := EReal.coe_le_coe_iff.mpr h
      have h1 : -7 ≤ Ideal.roundHalfEven r := le_rhe (by exact_mod_cast h)
      have h1' : ((-7 : ℝ) : EReal) ≤ ((Ideal.roundHalfEven r : ℝ) : EReal) := EReal.coe_le_coe_iff.mpr (by exact_mod_cast h1)
      rw [max_eq_right h1', max_eq_right h2]
      rcases le_total r 7 with g | g
      · have g1 : Ideal.roundHalfEven r ≤ 7 := rhe_le (by exact_mod_cast g)
        refine ⟨Ideal.roundHalfEven r, h1, g1, min_eq_right (EReal.coe_le_coe_iff.mpr (by exact_mod_cast g1)), ?_⟩
        rw [min_eq_right (EReal.coe_le_coe_iff.mpr g), Ideal.liftRound_coe]
      · have g1 : 7 ≤ Ideal.roundHalfEven r := le_rhe (by exact_mod_cast g)
        refine ⟨7, by omega, by omega, ?_, ?_⟩
        · rw [min_eq_left (EReal.coe_le_coe_iff.mpr (by exact_mod_cast g1))]; norm_num
        · rw [min_eq_left (EReal.coe_le_coe_iff.mpr g), e7]; norm_num

/-- A whole number of the clip's range as a word. -/
theorem fptosi_int {n : ℤ} (h1 : -7 ≤ n) (h2 : n ≤ 7) : Ideal.fptosi 32 ((n : ℝ) : EReal) = BitVec.ofInt 32 n := by
  unfold Ideal.fptosi
  rw [Ideal.toIntClamped_coe, Int.floor_intCast, Int.ceil_intCast, ite_self]
  congr 1
  norm_num
  omega

/-! ## The codes' bits -/

/-- The bits of a code: 192 + code, read as a bf16 number. -/
theorem bits_value {n : ℤ} (h1 : -7 ≤ n) (h2 : n ≤ 7) :
    Ideal.ofBits .bf16 (BitVec.setWidth 16 (IntOp.addi (BitVec.ofInt 32 n) 17216#32)) - Ideal.ofBits .bf16 17216#16 = ((n : ℝ) : EReal) := by
  have e : Ideal.ofBits .bf16 17216#16 = ((192 : ℝ) : EReal) := by
    simp [Ideal.ofBits, Ideal.ieee, -EReal.coe_mul]
    try norm_num
  have key : Ideal.ofBits .bf16 (BitVec.setWidth 16 (IntOp.addi (BitVec.ofInt 32 n) 17216#32)) = ((192 + n : ℝ) : EReal) := by
    have : n = -7 ∨ n = -6 ∨ n = -5 ∨ n = -4 ∨ n = -3 ∨ n = -2 ∨ n = -1 ∨ n = 0 ∨ n = 1 ∨ n = 2 ∨ n = 3 ∨ n = 4 ∨ n = 5 ∨ n = 6 ∨ n = 7 := by omega
    rcases this with h | h | h | h | h | h | h | h | h | h | h | h | h | h | h <;> subst h <;>
      (simp [Ideal.ofBits, Ideal.ieee, IntOp.addi, -EReal.coe_mul, -EReal.coe_add]; try norm_num [-EReal.coe_add])
  rw [key, e, ← EReal.coe_sub]
  congr 1; ring

/-- The low four bits of a code's bits are the code's. -/
theorem bits_nib (v : BitVec 32) : (BitVec.setWidth 16 (IntOp.addi v 17216#32)) &&& 15#16 = BitVec.setWidth 16 (v &&& 15#32) := by
  apply BitVec.eq_of_toNat_eq
  simp only [BitVec.toNat_and, BitVec.toNat_setWidth, IntOp.addi, BitVec.toNat_add, BitVec.toNat_ofNat]
  have a15 : ∀ k : ℕ, k &&& 15 = k % 16 := fun k => Nat.and_two_pow_sub_one_eq_mod k 4
  norm_num [a15]
  omega

end Cert.Scal

end
-- ==== Proof.Main.UnitVal.lean ====
/-
  The units of the search call read at an index, over the extended reals.
-/
module

public import proofs.«01_k».proof.Proof.Main.Units
public import proofs.«01_k».proof.Proof.Main.Scalars
public import Idealize.ShloMosaic.Lib.BitcastPair
public import Idealize.ShloMosaic.Lib.Pointwise

@[expose] public section

set_option maxRecDepth 16384

noncomputable section

namespace Cert.KernelIdeal.Main

open Cert.KernelIdeal Cert.KernelIdeal.Gen Idealize.ShloMosaic

section

variable (s : Vec Ideal S1x128x128 .f32) (inv w : Vec Ideal S1x128x128 .bf16)

theorem vU_apply (r l : Fin 128) : vU s w (ix2 r l) = w (ix3 0 r l) * s (ix3 0 r l) := by
  unfold vU; pointwise
theorem scU_apply (l : Fin 128) : scU s w (ix2 0 l) =
    if Finset.fold max (Ideal.ofBits .f32 0xFF800000#32) (fun x => max (vU s w (ix2 x l)) (-(vU s w (ix2 x l)))) Finset.univ = 0 then 1
    else Ideal.div (Finset.fold max (Ideal.ofBits .f32 0xFF800000#32) (fun x => max (vU s w (ix2 x l)) (-(vU s w (ix2 x l)))) Finset.univ)
      (Ideal.ofBits .f32 0x40E00000#32) := by
  unfold scU; generalize vU s w = v; dsimp only; pointwise; try rfl
theorem qU_apply (r l : Fin 128) : qU s w (ix2 r l) =
    Ideal.liftRound Ideal.roundHalfEven (min (Ideal.ofBits .f32 0x40E00000#32) (max (Ideal.ofBits .f32 0xC0E00000#32) (Ideal.div (vU s w (ix2 r l)) (scU s w (ix2 0 l))))) := by
  unfold qU; generalize vU s w = v; generalize scU s w = v; pointwise; try rfl
theorem bitsU_apply (r l : Fin 128) : bitsU s w (ix2 r l) =
    BitVec.setWidth 16 (IntOp.addi (Ideal.fptosi 32 (qU s w (ix2 r l))) 17216#32) := by
  unfold bitsU; generalize qU s w = v; pointwise; try rfl
theorem dU_apply (r l : Fin 128) : dU s inv w (ix2 r l) =
    w (ix3 0 r l) - (Ideal.ofBits .bf16 (bitsU s w (ix2 r l)) - Ideal.ofBits .bf16 17216#16) * scU s w (ix2 0 l) * inv (ix3 0 r l) := by
  unfold dU; generalize bitsU s w = v; generalize scU s w = v; pointwise; try rfl
theorem nibU_apply (r : Fin 64) (l : Fin 128) : nibU s w (ix2 r l) =
    IntOp.andi (bitsU s w (ix2 (⟨2 * r.val + 1, by omega⟩ : Fin 128) l) ++ bitsU s w (ix2 (⟨2 * r.val, by omega⟩ : Fin 128) l) : BitVec 32) 983055#32 := by
  unfold nibU; generalize bitsU s w = v
  have h : bitcast S64x128 32 v bitcasts_S128x128_w16_S64x128_w32 (ix2 r l)
      = v (ix2 (⟨2 * r.val + 1, by omega⟩ : Fin 128) l) ++ v (ix2 (⟨2 * r.val, by omega⟩ : Fin 128) l) := by
    rw [bitcast_16_32]
    congr 2 <;> (funext a; fin_cases a <;> rfl)
  pointwise
  rw [h]

end

/-- The word of four lane blocks' nibbles. -/
def packW (a b c d : BitVec 32) : BitVec 32 :=
  IntOp.ori
      (IntOp.andi
        (IntOp.ori (IntOp.ori a (IntOp.shli ArithUnit.vector b 8#32))
          (IntOp.shrui ArithUnit.vector (IntOp.ori a (IntOp.shli ArithUnit.vector b 8#32))
            12#32))
        65535#32)
      (IntOp.shli ArithUnit.vector
        (IntOp.ori (IntOp.ori c (IntOp.shli ArithUnit.vector d 8#32))
          (IntOp.shrui ArithUnit.vector (IntOp.ori c (IntOp.shli ArithUnit.vector d 8#32))
            12#32))
        16#32)

theorem halfU_apply (n0 n1 n2 n3 : IVec S64x128 32) (r : Fin 64) (l : Fin 128) :
    halfU n0 n1 n2 n3 (ix2 r l) = packW (n0 (ix2 r l)) (n1 (ix2 r l)) (n2 (ix2 r l)) (n3 (ix2 r l)) := by
  unfold halfU foldU pairU; pointwise; try rfl

theorem packW_bits (lo hi : Fin 4 → BitVec 16) (b : Fin 4) (q : ℕ) (hq : q < 8) :
    (packW (IntOp.andi (hi 0 ++ lo 0 : BitVec 32) 983055#32) (IntOp.andi (hi 1 ++ lo 1 : BitVec 32) 983055#32)
      (IntOp.andi (hi 2 ++ lo 2 : BitVec 32) 983055#32) (IntOp.andi (hi 3 ++ lo 3 : BitVec 32) 983055#32)).getLsbD (8 * b.val + q)
    = if q < 4 then (lo b).getLsbD q else (hi b).getLsbD (q - 4) := by
  unfold packW
  fin_cases b <;> interval_cases q <;>
    simp [IntOp.ori, IntOp.andi, IntOp.shli, IntOp.shrui, BitVec.getLsbD_append] <;>
    exact (BitVec.getElem_append ..).trans (by simp)

theorem byteU_apply (h0 h1 : IVec S64x128 32) (r : Fin 512) (l : Fin 128) (q : ℕ) (hq : q < 8) : (byteU h0 h1 (ix3 0 r l)).getLsbD q =
    (if h : l.val < 64 then h0 (ix2 (⟨l.val, h⟩ : Fin 64) (⟨r.val / 4, by omega⟩ : Fin 128)) else h1 (ix2 (⟨l.val - 64, by omega⟩ : Fin 64) (⟨r.val / 4, by omega⟩ : Fin 128))).getLsbD (8 * (r.val % 4) + q) := by
  have e : byteU h0 h1 (ix3 0 r l) = bitcast S512x128 8
      (transpose S128x128 [1, 0]
        (concatenate S128x128 0 [⟨S64x128, h0⟩, ⟨S64x128, h1⟩] concatenates_S64x128_S64x128_S128x128_d0)
        transposes_S128x128_p1_0_S128x128)
      bitcasts_S128x128_w32_S512x128_w8 (ix2 r l) := by
    unfold byteU; pointwise
  have e2 : (transpose S128x128 [1, 0]
        (concatenate S128x128 0 [⟨S64x128, h0⟩, ⟨S64x128, h1⟩] concatenates_S64x128_S64x128_S128x128_d0)
        transposes_S128x128_p1_0_S128x128) (ix2 (⟨r.val / 4, by omega⟩ : Fin 128) l) =
       (if h : l.val < 64 then h0 (ix2 (⟨l.val, h⟩ : Fin 64) (⟨r.val / 4, by omega⟩ : Fin 128)) else h1 (ix2 (⟨l.val - 64, by omega⟩ : Fin 64) (⟨r.val / 4, by omega⟩ : Fin 128))) := by
    pointwise
  rw [e, bitcast_getLsbD _ _ _ q hq (by decide), ← e2]
  have er : S512x128.row (ix2 r l) = r.val := rfl
  have m : (S512x128.row (ix2 r l) * 8 + q) % 32 = 8 * (r.val % 4) + q := by rw [er]; omega
  rw [m]
  congr 2
  funext a
  fin_cases a
  · refine Fin.ext ?_
    show (S512x128.row (ix2 r l) * 8 + q) / 32 = r.val / 4
    rw [er]; omega
  · rfl

theorem chunkU_apply (m : Vec Ideal S512x2048 .bf16) (D : Vec Ideal S2048x512 .bf16) (r : Vec Ideal S512x128 .f32) (d : Vec Ideal S512x512 .bf16)
    (hr : ∀ i j, r (ix2 i j) = 0) (a : Fin 8) (l : Fin 512) : chunkU m D r d (ix2 a l) =
    ∑ x : Fin 64, (∑ k, m (ix2 (⟨x.val * 8 + a.val, by omega⟩ : Fin 512) k) * D (ix2 k l)) * d (ix2 (⟨x.val * 8 + a.val, by omega⟩ : Fin 512) l) := by
  unfold chunkU; dsimp only; pointwise
  simp only [hr, ite_self, dite_eq_ite, mul_zero, add_zero]

theorem rowU_apply (a b c d : FVec Ideal S8x512 .f32) (l : Fin 512) : rowU a b c d (ix3 0 0 l) =
    (∑ x : Fin 8, (a (ix2 x l) + b (ix2 x l) + c (ix2 x l) + d (ix2 x l))) * Ideal.ofBits .f32 0x39800000#32 := by
  unfold rowU; pointwise; try rfl

end Cert.KernelIdeal.Main

end
-- ==== Proof.Main.TileVal.lean ====
/-
  The blocks that a grid point of the search call leaves, in the reference's terms: the error array, the scales and the
  codes of a tile of weights, given that the point's input blocks are the tile of the weights and the two grid values'
  scaling vectors and their inverses.
-/
module

public import proofs.«01_k».proof.Proof.Main.UnitVal
public import proofs.«01_k».proof.Proof.Main.RefVal

@[expose] public section

set_option maxRecDepth 16384

noncomputable section

namespace Cert.KernelIdeal.Main

open Cert.KernelIdeal Cert.KernelIdeal.Gen Idealize.ShloMosaic
open Cert.RefVal hiding rS rSc

/-- The weight row of a tile's column. -/
abbrev oIx (t : Fin 16) (c : Fin 512) : Fin 8192 := ⟨t.val * 512 + 4 * (c.val % 128) + c.val / 128, by omega⟩
/-- A row of a tile. -/
abbrev rowIx (t : Fin 16) (c : Fin 512) : Fin 8192 := ⟨t.val * 512 + c.val, by omega⟩

/-- The reference's stages from the scaling vectors on. -/
abbrev scS (S : Vec Ideal ReferenceIdeal.S20x2048 .f32) (w : Vec Ideal ReferenceIdeal.S8192x2048 .bf16) := RefVal.rSc (rMax (rV S w))
abbrev qS (S : Vec Ideal ReferenceIdeal.S20x2048 .f32) (w : Vec Ideal ReferenceIdeal.S8192x2048 .bf16) := rQ (rV S w) (scS S w)
abbrev wqS (S : Vec Ideal ReferenceIdeal.S20x2048 .f32) (w : Vec Ideal ReferenceIdeal.S8192x2048 .bf16) := rWq S (scS S w) (qS S w)
abbrev codeS (S : Vec Ideal ReferenceIdeal.S20x2048 .f32) (w : Vec Ideal ReferenceIdeal.S8192x2048 .bf16) := rPack (rInt (qS S w))

section
variable (S : Vec Ideal ReferenceIdeal.S20x2048 .f32) (w : Vec Ideal ReferenceIdeal.S8192x2048 .bf16) (i : Fin 20) (o : Fin 8192)
theorem scS_apply (g : Fin 16) : scS S w (ix3 i o g) =
    (if Finset.fold max (Ideal.ofBits .f32 0xFF800000#32) (fun x => max (rV S w (ix4 i o g x)) (-(rV S w (ix4 i o g x)))) Finset.univ = 0 then 1
      else Ideal.div (Finset.fold max (Ideal.ofBits .f32 0xFF800000#32) (fun x => max (rV S w (ix4 i o g x)) (-(rV S w (ix4 i o g x)))) Finset.univ)
        (Ideal.ofBits .f32 0x40E00000#32)) := by
  refine (rSc_apply _ i o g).trans ?_
  rw [rMax_apply]
theorem qS_apply (g : Fin 16) (l : Fin 128) : qS S w (ix4 i o g l) =
    min (Ideal.ofBits .f32 0x40E00000#32) (max (Ideal.ofBits .f32 0xC0E00000#32)
      (Ideal.liftRound Ideal.roundHalfEven (Ideal.div (rV S w (ix4 i o g l)) (scS S w (ix3 i o g))))) := rQ_apply _ _ i o g l
theorem wqS_apply (k : Fin 2048) : wqS S w (ix3 i o k) =
    qS S w (ix4 i o (gIx k) (lIx k)) * scS S w (ix3 i o (gIx k)) * Ideal.div 1 (S (ix2 i k)) := rWq_apply _ _ _ i o k
theorem codeS_apply (j : Fin 1024) : codeS S w (ix3 i o j) =
    BitVec.setWidth 8 (IntOp.ori (IntOp.andi (Ideal.fptosi 32 (qS S w (ix4 i o (⟨j.val / 64, by omega⟩ : Fin 16) (⟨j.val % 64 * 2, by omega⟩ : Fin 128)))) 15#32)
      (IntOp.shli ArithUnit.host (IntOp.andi (Ideal.fptosi 32 (qS S w (ix4 i o (⟨j.val / 64, by omega⟩ : Fin 16) (⟨j.val % 64 * 2 + 1, by omega⟩ : Fin 128)))) 15#32) 4#32)) := by
  refine (rPack_apply _ i o j).trans ?_
  rw [rInt_apply, rInt_apply]
  rfl
end

/-- The bits of a packed pair. -/
theorem pack_bits (n0 n1 : BitVec 32) (q : ℕ) (hq : q < 8) :
    (BitVec.setWidth 8 (IntOp.ori (IntOp.andi n0 15#32) (IntOp.shli ArithUnit.host (IntOp.andi n1 15#32) 4#32))).getLsbD q
      = if q < 4 then n0.getLsbD q else n1.getLsbD (q - 4) := by
  interval_cases q <;> simp [IntOp.ori, IntOp.andi, IntOp.shli]

/-- What a grid point's input blocks are. -/
structure TileHyp (S : Vec Ideal ReferenceIdeal.S20x2048 .f32) (w : Vec Ideal ReferenceIdeal.S8192x2048 .bf16)
    (x2 : Vec Ideal S1x2048x512 .bf16) (x3 : Vec Ideal S2x2048x128 .f32) (x4 : Vec Ideal S2x2048x128 .bf16)
    (t : Fin 16) (i : Fin 2 → Fin 20) : Prop where
  hw : ∀ (k : Fin 2048) (c : Fin 512), x2 (ix3 0 k c) = w (ix2 (oIx t c) k)
  hs : ∀ (p : Fin 2) (k : Fin 2048) (l : Fin 128), x3 (ix3 p k l) = S (ix2 (i p) k)
  hi : ∀ (p : Fin 2) (k : Fin 2048) (l : Fin 128), x4 (ix3 p k l) = Ideal.div 1 (S (ix2 (i p) k))

/-- Column `l` of lane block `b`. -/
abbrev cIx (b : Fin 4) (l : Fin 128) : Fin 512 := ⟨128 * b.val + l.val, by omega⟩

theorem rW_at {α : Type} (x : S1x2048x512.Idx → α) (g : Fin 16) (b : Fin 4) (r l : Fin 128) : x ((rW g b).emb (ix3 (0 : Fin 1) r l)) = x (ix3 0 (kIx g r) (cIx b l)) := by
  refine congrArg x (funext fun a => Fin.ext ?_)
  fin_cases a
  · rfl
  · show 128 * g.val + 1 * r.val = g.val * 128 + r.val; omega
  · show 128 * b.val + 1 * l.val = 128 * b.val + l.val; omega
theorem rS_at {α : Type} (x : S2x2048x128.Idx → α) (p : Fin 2) (g : Fin 16) (r l : Fin 128) : x ((rS p g).emb (ix3 (0 : Fin 1) r l)) = x (ix3 p (kIx g r) l) := by
  refine congrArg x (funext fun a => Fin.ext ?_)
  fin_cases a
  · show p.val + 1 * 0 = p.val; omega
  · show 128 * g.val + 1 * r.val = g.val * 128 + r.val; omega
  · show 0 + 1 * l.val = l.val; omega

theorem mem_rD (g : Fin 16) (b : Fin 4) (k : Fin 2048) (c : Fin 512) (h0 : k.val / 128 = g.val) (h1 : c.val / 128 = b.val) :
    ix2 k c ∈ (rD g b).set := by
  rw [Rect.mem_set_unit]
  intro a
  fin_cases a
  · show 128 * g.val ≤ k.val ∧ k.val < 128 * g.val + 128; omega
  · show 128 * b.val ≤ c.val ∧ c.val < 128 * b.val + 128; omega
theorem mem_rSc (p : Fin 2) (g : Fin 16) (b : Fin 4) (c : Fin 512) (h1 : c.val / 128 = b.val) :
    ix4 p (0 : Fin 1) g c ∈ (rSc p g b).set := by
  rw [Rect.mem_set_unit]
  intro a
  fin_cases a
  · show p.val ≤ p.val ∧ p.val < p.val + 1; omega
  · show 0 ≤ 0 ∧ 0 < 0 + 1; omega
  · show g.val ≤ g.val ∧ g.val < g.val + 1; omega
  · show 128 * b.val ≤ c.val ∧ c.val < 128 * b.val + 128; omega
theorem mem_rC (p : Fin 2) (h : Fin 8) (r : Fin 512) (c : Fin 1024) (h1 : c.val / 128 = h.val) :
    ix3 p r c ∈ (rC p h).set := by
  have := r.isLt
  rw [Rect.mem_set_unit]
  intro a
  fin_cases a
  · show p.val ≤ p.val ∧ p.val < p.val + 1; omega
  · show 0 ≤ r.val ∧ r.val < 0 + 512; omega
  · show 128 * h.val ≤ c.val ∧ c.val < 128 * h.val + 128; omega

section

variable {S : Vec Ideal ReferenceIdeal.S20x2048 .f32} {w : Vec Ideal ReferenceIdeal.S8192x2048 .bf16}
  {x2 : Vec Ideal S1x2048x512 .bf16} {x3 : Vec Ideal S2x2048x128 .f32} {x4 : Vec Ideal S2x2048x128 .bf16}
  {t : Fin 16} {i : Fin 2 → Fin 20} (H : TileHyp S w x2 x3 x4 t i) (p : Fin 2) (g : Fin 16) (b : Fin 4)

include H

theorem vU_tile (r l : Fin 128) : vU (View.ld x3 (rS p g)) (View.ld x2 (rW g b)) (ix2 r l) = rV S w (ix4 (i p) (oIx t (cIx b l)) g r) := by
  rw [vU_apply, rV_apply]
  show x2 ((rW g b).emb (ix3 (0 : Fin 1) r l)) * x3 ((rS p g).emb (ix3 (0 : Fin 1) r l)) = _
  rw [rW_at x2, rS_at x3, H.hw, H.hs]

theorem scU_tile (l : Fin 128) : scU (View.ld x3 (rS p g)) (View.ld x2 (rW g b)) (ix2 0 l) = scS S w (ix3 (i p) (oIx t (cIx b l)) g) := by
  rw [scU_apply, scS_apply]
  simp only [vU_tile H]

theorem qU_tile (r l : Fin 128) : ∃ n : ℤ, -7 ≤ n ∧ n ≤ 7 ∧ qU (View.ld x3 (rS p g)) (View.ld x2 (rW g b)) (ix2 r l) = ((n : ℝ) : EReal)
    ∧ qS S w (ix4 (i p) (oIx t (cIx b l)) g r) = ((n : ℝ) : EReal) := by
  rw [qU_apply, qS_apply, vU_tile H, scU_tile H, Scal.c7, Scal.cm7]
  obtain ⟨n, h1, h2, h3, h4⟩ := Scal.clip_cases (Ideal.div (rV S w (ix4 (i p) (oIx t (cIx b l)) g r)) (scS S w (ix3 (i p) (oIx t (cIx b l)) g)))
  exact ⟨n, h1, h2, h4, h3⟩

theorem bitsU_tile (r l : Fin 128) (q : ℕ) (hq : q < 4) : (bitsU (View.ld x3 (rS p g)) (View.ld x2 (rW g b)) (ix2 r l)).getLsbD q
    = (Ideal.fptosi 32 (qS S w (ix4 (i p) (oIx t (cIx b l)) g r))).getLsbD q := by
  obtain ⟨n, -, -, h3, h4⟩ := qU_tile H p g b r l
  rw [bitsU_apply, h3, h4]
  have h := congrArg (fun v : BitVec 16 => v.getLsbD q) (Scal.bits_nib (Ideal.fptosi 32 ((n : ℝ) : EReal)))
  revert h
  generalize Ideal.fptosi 32 ((n : ℝ) : EReal) = v
  intro h
  interval_cases q <;> simpa using h

theorem dU_tile (r l : Fin 128) : dU (View.ld x3 (rS p g)) (View.ld x4 (rS p g)) (View.ld x2 (rW g b)) (ix2 r l)
    = w (ix2 (oIx t (cIx b l)) (kIx g r)) - wqS S w (ix3 (i p) (oIx t (cIx b l)) (kIx g r)) := by
  obtain ⟨n, h1, h2, h3, h4⟩ := qU_tile H p g b r l
  rw [dU_apply, bitsU_apply, h3, Scal.fptosi_int h1 h2, Scal.bits_value h1 h2, scU_tile H, wqS_apply]
  have eg : gIx (kIx g r) = g := Fin.ext (by show (g.val * 128 + r.val) / 128 = g.val; omega)
  have el : lIx (kIx g r) = r := Fin.ext (by show (g.val * 128 + r.val) % 128 = r.val; omega)
  rw [eg, el, h4]
  show x2 ((rW g b).emb (ix3 (0 : Fin 1) r l)) - _ * x4 ((rS p g).emb (ix3 (0 : Fin 1) r l)) = _
  rw [rW_at x2, rS_at x4, H.hw, H.hi]

/-- The error array of a grid value. -/
theorem dTile_apply (k : Fin 2048) (c : Fin 512) : dTile x2 x3 x4 p (ix2 k c) = w (ix2 (oIx t c) k) - wqS S w (ix3 (i p) (oIx t c) k) := by
  unfold dTile
  refine View.canon_apply_of_pieces (fun j : S2048x512.Idx => w (ix2 (oIx t (j 1)) (j 0)) - wqS S w (ix3 (i p) (oIx t (j 1)) (j 0))) _ ?_ _ ?_
  · intro pc hp x
    unfold famD at hp
    obtain ⟨n, rfl⟩ := (List.mem_ofFn' _ _).mp hp
    obtain ⟨r, l, rfl⟩ : ∃ r l : Fin 128, x = ix2 r l := ⟨x 0, x 1, funext fun a => by fin_cases a <;> rfl⟩
    refine (dU_tile H p (gOf n) (bOf n) r l).trans ?_
    have e0 : (rD (gOf n) (bOf n)).emb (ix2 r l) = ix2 (kIx (gOf n) r) (cIx (bOf n) l) := by
      funext a; refine Fin.ext ?_
      fin_cases a
      · show 128 * (gOf n).val + 1 * r.val = (gOf n).val * 128 + r.val; omega
      · show 128 * (bOf n).val + 1 * l.val = 128 * (bOf n).val + l.val; omega
    show _ = (fun j : S2048x512.Idx => w (ix2 (oIx t (j 1)) (j 0)) - wqS S w (ix3 (i p) (oIx t (j 1)) (j 0))) ((rD (gOf n) (bOf n)).emb (ix2 r l))
    rw [e0]; rfl
  · have hk : 63 - (4 * (k.val / 128) + c.val / 128) < 64 := by omega
    refine ⟨_, (List.mem_ofFn' _ _).mpr ⟨⟨63 - (4 * (k.val / 128) + c.val / 128), hk⟩, rfl⟩, ?_⟩
    refine mem_rD _ _ k c ?_ ?_
    · show k.val / 128 = (63 - (63 - (4 * (k.val / 128) + c.val / 128))) / 4; omega
    · show c.val / 128 = (63 - (63 - (4 * (k.val / 128) + c.val / 128))) % 4; omega

omit H in
theorem row_cast (v : FVec Ideal S1x128 .f32) (l : Fin 128) : shapeCast S1x1x1x128 v shapeCasts_S1x128_S1x1x1x128 (ix4 0 0 0 l) = v (ix2 0 l) := by
  pointwise

/-- The scales block's stores of a grid value. -/
theorem famSc_at (pc : View.Piece (Elt Ideal) S2x1x16x512 .f32) (hp : pc ∈ famSc (View.ld x2) (View.ld x3) p) (x : pc.1.shape.Idx) :
    pc.2 x = (fun j : S2x1x16x512.Idx => scS S w (ix3 (i (j 0)) (oIx t (j 3)) (j 2))) (pc.1.emb x) := by
  unfold famSc at hp
  obtain ⟨n, rfl⟩ := (List.mem_ofFn' _ _).mp hp
  obtain ⟨a, b, c, l, rfl⟩ : ∃ (a b c : Fin 1) (l : Fin 128), x = ix4 a b c l := ⟨x 0, x 1, x 2, x 3, funext fun a => by fin_cases a <;> rfl⟩
  obtain rfl := Subsingleton.elim a 0
  obtain rfl := Subsingleton.elim b 0
  obtain rfl := Subsingleton.elim c 0
  have e0 : (rSc p (gOf n) (bOf n)).emb (ix4 (0 : Fin 1) (0 : Fin 1) (0 : Fin 1) l) = ix4 p 0 (gOf n) (cIx (bOf n) l) := by
    funext a; refine Fin.ext ?_
    fin_cases a
    · show p.val + 1 * 0 = p.val; omega
    · rfl
    · show (gOf n).val + 1 * 0 = (gOf n).val; omega
    · show 128 * (bOf n).val + 1 * l.val = 128 * (bOf n).val + l.val; omega
  dsimp only
  refine (row_cast (scU (View.ld x3 (rS p (gOf n))) (View.ld x2 (rW (gOf n) (bOf n)))) l).trans ((scU_tile H p (gOf n) (bOf n) l).trans ?_)
  exact (congrArg (fun j : S2x1x16x512.Idx => scS S w (ix3 (i (j 0)) (oIx t (j 3)) (j 2))) e0).symm

omit H in
theorem famSc_mem (c : Fin 512) : ∃ pc ∈ famSc (View.ld x2) (View.ld x3) p, ix4 p (0 : Fin 1) g c ∈ pc.1.set := by
  refine ⟨_, (List.mem_ofFn' _ _).mpr ⟨⟨63 - (4 * g.val + c.val / 128), by omega⟩, rfl⟩, ?_⟩
  have eg : gOf ⟨63 - (4 * g.val + c.val / 128), by omega⟩ = g := Fin.ext (by
    show (63 - (63 - (4 * g.val + c.val / 128))) / 4 = g.val; omega)
  show ix4 p (0 : Fin 1) g c ∈ (rSc p (gOf ⟨63 - (4 * g.val + c.val / 128), by omega⟩) (bOf ⟨63 - (4 * g.val + c.val / 128), by omega⟩)).set
  rw [eg]
  refine mem_rSc p g _ c ?_
  show c.val / 128 = (63 - (63 - (4 * g.val + c.val / 128))) % 4; omega

/-- The scales block. -/
theorem scTile_apply (c : Fin 512) : scTile x2 x3 (ix4 p 0 g c) = scS S w (ix3 (i p) (oIx t c) g) := by
  unfold scTile
  refine View.canon_apply_of_pieces (fun j : S2x1x16x512.Idx => scS S w (ix3 (i (j 0)) (oIx t (j 3)) (j 2))) _ ?_ _ ?_
  · intro pc hp x
    rcases List.mem_append.mp hp with h | h
    · exact famSc_at H 1 pc h x
    · exact famSc_at H 0 pc h x
  · obtain ⟨pc, h1, h2⟩ := famSc_mem (x2 := x2) (x3 := x3) p g c
    refine ⟨pc, List.mem_append.mpr ?_, h2⟩
    fin_cases p
    · exact .inr h1
    · exact .inl h1

/-- A group's words, a byte's bits at a time. -/
theorem halfOf_tile (l : Fin 64) (r : Fin 512) (q : ℕ) (hq : q < 8) :
    (halfOf (View.ld x2) (View.ld x3) p g (ix2 l (⟨r.val / 4, by omega⟩ : Fin 128))).getLsbD (8 * (r.val % 4) + q)
      = if q < 4 then (Ideal.fptosi 32 (qS S w (ix4 (i p) (rowIx t r) g (⟨l.val * 2, by omega⟩ : Fin 128)))).getLsbD q
        else (Ideal.fptosi 32 (qS S w (ix4 (i p) (rowIx t r) g (⟨l.val * 2 + 1, by omega⟩ : Fin 128)))).getLsbD (q - 4) := by
  unfold halfOf
  rw [halfU_apply, nibU_apply, nibU_apply, nibU_apply, nibU_apply]
  refine (packW_bits (fun b => bitsU (View.ld x3 (rS p g)) (View.ld x2 (rW g b)) (ix2 (⟨2 * l.val, by omega⟩ : Fin 128) (⟨r.val / 4, by omega⟩ : Fin 128)))
    (fun b => bitsU (View.ld x3 (rS p g)) (View.ld x2 (rW g b)) (ix2 (⟨2 * l.val + 1, by omega⟩ : Fin 128) (⟨r.val / 4, by omega⟩ : Fin 128))) ⟨r.val % 4, by omega⟩ q hq).trans ?_
  have eo : oIx t (cIx (⟨r.val % 4, by omega⟩ : Fin 4) (⟨r.val / 4, by omega⟩ : Fin 128)) = rowIx t r := Fin.ext (by
    show t.val * 512 + 4 * ((128 * (r.val % 4) + r.val / 4) % 128) + (128 * (r.val % 4) + r.val / 4) / 128 = t.val * 512 + r.val
    have := r.isLt; omega)
  have e0 : (⟨2 * l.val, by omega⟩ : Fin 128) = ⟨l.val * 2, by omega⟩ := Fin.ext (Nat.mul_comm ..)
  have e1 : (⟨2 * l.val + 1, by omega⟩ : Fin 128) = ⟨l.val * 2 + 1, by omega⟩ := Fin.ext (by show 2 * l.val + 1 = l.val * 2 + 1; omega)
  by_cases h : q < 4
  · rw [if_pos h, if_pos h]
    refine (bitsU_tile H p g _ _ _ q h).trans ?_
    rw [eo, e0]
  · rw [if_neg h, if_neg h]
    refine (bitsU_tile H p g _ _ _ (q - 4) (by omega)).trans ?_
    rw [eo, e1]

/-- The codes block's stores of a grid value. -/
theorem famC_at (pc : View.Piece (Elt Ideal) S2x512x1024 .i8) (hp : pc ∈ famC (View.ld x2) (View.ld x3) p) (x : pc.1.shape.Idx) :
    pc.2 x = (fun j : S2x512x1024.Idx => codeS S w (ix3 (i (j 0)) (rowIx t (j 1)) (j 2))) (pc.1.emb x) := by
  unfold famC at hp
  obtain ⟨n, rfl⟩ := (List.mem_ofFn' _ _).mp hp
  obtain ⟨a, r, l, rfl⟩ : ∃ (a : Fin 1) (r : Fin 512) (l : Fin 128), x = ix3 a r l := ⟨x 0, x 1, x 2, funext fun a => by fin_cases a <;> rfl⟩
  obtain rfl := Subsingleton.elim a 0
  have hh := (hOf n).isLt
  have e0 : (rC p (hOf n)).emb (ix3 (0 : Fin 1) r l) = ix3 p r (⟨128 * (hOf n).val + l.val, by omega⟩ : Fin 1024) := by
    funext a; refine Fin.ext ?_
    fin_cases a
    · show p.val + 1 * 0 = p.val; omega
    · show 0 + 1 * r.val = r.val; omega
    · show 128 * (hOf n).val + 1 * l.val = 128 * (hOf n).val + l.val; omega
  show byteU (halfOf (View.ld x2) (View.ld x3) p (evenOf (hOf n))) (halfOf (View.ld x2) (View.ld x3) p (oddOf (hOf n))) (ix3 0 r l)
    = (fun j : S2x512x1024.Idx => codeS S w (ix3 (i (j 0)) (rowIx t (j 1)) (j 2))) ((rC p (hOf n)).emb (ix3 (0 : Fin 1) r l))
  rw [e0]
  show _ = codeS S w (ix3 (i p) (rowIx t r) (⟨128 * (hOf n).val + l.val, by omega⟩ : Fin 1024))
  rw [codeS_apply]
  refine BitVec.eq_of_getLsbD_eq fun q hq => ?_
  rw [byteU_apply _ _ _ _ q hq, pack_bits _ _ q hq]
  by_cases hl : l.val < 64
  · rw [dif_pos hl]
    refine (halfOf_tile H p (evenOf (hOf n)) ⟨l.val, hl⟩ r q hq).trans ?_
    have eg : (⟨(128 * (hOf n).val + l.val) / 64, by omega⟩ : Fin 16) = evenOf (hOf n) := Fin.ext (by
      show (128 * (hOf n).val + l.val) / 64 = 2 * (hOf n).val; omega)
    have em : (128 * (hOf n).val + l.val) % 64 = l.val := by omega
    simp only [eg, em]
  · rw [dif_neg hl]
    refine (halfOf_tile H p (oddOf (hOf n)) ⟨l.val - 64, by omega⟩ r q hq).trans ?_
    have eg : (⟨(128 * (hOf n).val + l.val) / 64, by omega⟩ : Fin 16) = oddOf (hOf n) := Fin.ext (by
      show (128 * (hOf n).val + l.val) / 64 = 2 * (hOf n).val + 1; omega)
    have em : (128 * (hOf n).val + l.val) % 64 = l.val - 64 := by omega
    simp only [eg, em]

omit H in
theorem famC_mem (r : Fin 512) (c : Fin 1024) : ∃ pc ∈ famC (View.ld x2) (View.ld x3) p, ix3 p r c ∈ pc.1.set := by
  refine ⟨_, (List.mem_ofFn' _ _).mpr ⟨⟨7 - c.val / 128, by omega⟩, rfl⟩, ?_⟩
  refine mem_rC p _ r c ?_
  show c.val / 128 = 7 - (7 - c.val / 128); omega

/-- The codes block. -/
theorem cTile_apply (r : Fin 512) (c : Fin 1024) : cTile x2 x3 (ix3 p r c) = codeS S w (ix3 (i p) (rowIx t r) c) := by
  unfold cTile
  refine View.canon_apply_of_pieces (fun j : S2x512x1024.Idx => codeS S w (ix3 (i (j 0)) (rowIx t (j 1)) (j 2))) _ ?_ _ ?_
  · intro pc hp x
    rcases List.mem_append.mp hp with h | h
    · exact famC_at H 1 pc h x
    · exact famC_at H 0 pc h x
  · obtain ⟨pc, h1, h2⟩ := famC_mem (x2 := x2) (x3 := x3) p r c
    refine ⟨pc, List.mem_append.mpr ?_, h2⟩
    fin_cases p
    · exact .inr h1
    · exact .inl h1

end

end Cert.KernelIdeal.Main

end
-- ==== Proof.Main.OutVal.lean ====
/-
  The codes and the scales that the kernel ends with are the reference's; the error arrays are the weights less the
  reference's quantised weights.
-/
module

public import proofs.«01_k».proof.Proof.Main.HostVal
public import proofs.«01_k».proof.Proof.Main.TileVal

@[expose] public section

set_option maxRecDepth 16384

noncomputable section

namespace Cert.KernelIdeal.Main

open Cert.KernelIdeal Cert.KernelIdeal.Gen Idealize.ShloMosaic Idealize.ShloMosaic.TcCoe Idealize.ShloMosaic.StableHlo

/-- The tile of a grid point, and its two grid values. -/
abbrev tOf (t : Fin cfg2.N) : Fin 16 := ⟨t.val / 10, by have := Nat.lt_of_lt_of_eq t.isLt N_2; omega⟩
abbrev iOf (t : Fin cfg2.N) (p : Fin 2) : Fin 20 := ⟨2 * (t.val % 10) + p.val, by omega⟩

section
variable (m : (ℓ : Loc nD τ sig) → Buf (Elt Ideal) ℓ) (c : Dev nD)

theorem hyp (t : Fin cfg2.N) : TileHyp (RefVal.sOf (argX m c)) (argW m c) (bW (vc (A6 m)) c t) (bS (vc (A6 m)) c t) (bI (vc (A6 m)) c t) (tOf t) (iOf t) where
  hw k l := by
    rw [bW_apply]
    refine (A6_v20 m c _ k l).trans (congrArg (fun o => argW m c (ix2 o k)) (Fin.ext ?_))
    show t.val / 10 * 512 + l.val % 128 * 4 + l.val / 128 = t.val / 10 * 512 + 4 * (l.val % 128) + l.val / 128
    omega
  hs p k l := by
    rw [bS_apply]
    exact A6_v15 m c _ k l
  hi p k l := by
    rw [bI_apply]
    exact A6_v17 m c _ k l

theorem iOf_point (i : Fin 20) (t : ℕ) (ht : t < 16) : iOf (pointOf i.val t) (⟨i.val % 2, Nat.mod_lt _ (by decide)⟩ : Fin 2) = i :=
  Fin.ext (by show 2 * ((t * 10 + i.val / 2) % 160 % 10) + i.val % 2 = i.val; omega)
theorem tOf_point (i : Fin 20) (t : Fin 16) : tOf (pointOf i.val t.val) = t :=
  Fin.ext (by show (t.val * 10 + i.val / 2) % 160 / 10 = t.val; omega)

/-- The codes. -/
theorem codes_eq : codesArr (vc (A6 m)) c = RefVal.codeOf (argX m c) (argW m c) := by
  funext j
  obtain ⟨i, o, k, rfl⟩ : ∃ (i : Fin 20) (o : Fin 8192) (k : Fin 1024), j = ix3 i o k := ⟨j 0, j 1, j 2, funext fun a => by fin_cases a <;> rfl⟩
  refine (cTile_apply (hyp m c (pointOf i.val (o.val / 512))) (⟨i.val % 2, Nat.mod_lt _ (by decide)⟩ : Fin 2) (⟨o.val % 512, Nat.mod_lt _ (by decide)⟩ : Fin 512) k).trans ?_
  have e1 := iOf_point i (o.val / 512) (by omega)
  have e2 := tOf_point i (⟨o.val / 512, by omega⟩ : Fin 16)
  have e3 : rowIx (⟨o.val / 512, by omega⟩ : Fin 16) (⟨o.val % 512, Nat.mod_lt _ (by decide)⟩ : Fin 512) = o :=
    Fin.ext (by show o.val / 512 * 512 + o.val % 512 = o.val; omega)
  rw [e1, e2, e3]
  rfl

theorem oIx_lane (o : Fin 8192) : oIx (⟨o.val / 512, by omega⟩ : Fin 16) (⟨o.val % 4 * 128 + o.val / 4 % 128, by omega⟩ : Fin 512) = o :=
  Fin.ext (by
    show o.val / 512 * 512 + 4 * ((o.val % 4 * 128 + o.val / 4 % 128) % 128) + (o.val % 4 * 128 + o.val / 4 % 128) / 128 = o.val
    have hb : o.val / 4 % 128 < 128 := Nat.mod_lt _ (by decide)
    have e : o.val / 512 * 512 + 4 * (o.val / 4 % 128) + o.val % 4 = o.val := by omega
    generalize o.val / 4 % 128 = b at hb e ⊢
    generalize o.val % 4 = a at e ⊢
    omega)

/-- The scales. -/
theorem scales_eq : hSo (scalesArr (vc (A6 m)) c) = RefVal.scOf (argX m c) (argW m c) := by
  funext j
  obtain ⟨i, o, g, rfl⟩ : ∃ (i : Fin 20) (o : Fin 8192) (g : Fin 16), j = ix3 i o g := ⟨j 0, j 1, j 2, funext fun a => by fin_cases a <;> rfl⟩
  rw [hSo_apply]
  refine (scTile_apply (hyp m c (pointOf i.val (o.val / 512))) (⟨i.val % 2, Nat.mod_lt _ (by decide)⟩ : Fin 2) g (⟨o.val % 4 * 128 + o.val / 4 % 128, by omega⟩ : Fin 512)).trans ?_
  have e1 := iOf_point i (o.val / 512) (by omega)
  have e2 := tOf_point i (⟨o.val / 512, by omega⟩ : Fin 16)
  rw [e1, e2, oIx_lane]
  rfl

/-- The error arrays. -/
theorem err_eq (i : Fin 20) (o : Fin 8192) (k : Fin 2048) :
    errAt (vc (A6 m)) c (1 + (o.val / 512 * 20 + i.val)) (ix2 k (⟨o.val % 4 * 128 + o.val / 4 % 128, by omega⟩ : Fin 512))
      = argW m c (ix2 o k) - RefVal.wqOf (argX m c) (argW m c) (ix3 i o k) := by
  have e1 := iOf_point i (o.val / 512) (by omega)
  have e2 := tOf_point i (⟨o.val / 512, by omega⟩ : Fin 16)
  have ed := dTile_apply (hyp m c (pointOf i.val (o.val / 512))) (⟨i.val % 2, Nat.mod_lt _ (by decide)⟩ : Fin 2) k (⟨o.val % 4 * 128 + o.val / 4 % 128, by omega⟩ : Fin 512)
  rw [e1, e2, oIx_lane] at ed
  refine Eq.trans (congrFun ?_ _) ed
  rcases Nat.mod_two_eq_zero_or_one i.val with h | h
  · have en : 1 + (o.val / 512 * 20 + i.val) = 2 * (pointOf i.val (o.val / 512)).val + 1 := by
      show _ = 2 * ((o.val / 512 * 10 + i.val / 2) % 160) + 1; omega
    have ep : (⟨i.val % 2, Nat.mod_lt _ (by decide)⟩ : Fin 2) = 0 := Fin.ext h
    rw [en, errAt_odd, ep]
  · have en : 1 + (o.val / 512 * 20 + i.val) = 2 * (pointOf i.val (o.val / 512)).val + 2 := by
      show _ = 2 * ((o.val / 512 * 10 + i.val / 2) % 160) + 2; omega
    have ep : (⟨i.val % 2, Nat.mod_lt _ (by decide)⟩ : Fin 2) = 1 := Fin.ext h
    rw [en, errAt_even, ep]
end

end Cert.KernelIdeal.Main

end
-- ==== Proof.Main.LossAlg.lean ====
/-
  The algebra of the losses: a mean of squares as a quadratic form, its strictly upper half doubled, and sums in chunks.
-/
module

public import Idealize.ShloMosaic.Lib.Pointwise

@[expose] public section

set_option maxRecDepth 16384

noncomputable section

namespace Cert.Loss

open Idealize.ShloMosaic

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The upper half of a symmetric matrix, doubled off the diagonal. -/
def upper {K : ℕ} (G : Fin K → Fin K → ℝ) (j k : Fin K) : ℝ := if j < k then 2 * G j k else if j = k then G j k else 0

theorem upper_add {K : ℕ} (G : Fin K → Fin K → ℝ) (h : ∀ j k, G j k = G k j) (j k : Fin K) : upper G j k + upper G k j = 2 * G j k := by
  unfold upper
  rcases lt_trichotomy j k with a | a | a
  · rw [if_pos a, if_neg (not_lt_of_gt a), if_neg a.ne']; ring
  · subst a; simp; ring
  · rw [if_neg (not_lt_of_gt a), if_neg a.ne', if_pos a, h k j]; ring

theorem quad_upper {K : ℕ} (G : Fin K → Fin K → ℝ) (h : ∀ j k, G j k = G k j) (d : Fin K → ℝ) :
    ∑ j, (∑ k, upper G j k * d k) * d j = ∑ j, ∑ k, G j k * d k * d j := by
  have e : ∑ j, (∑ k, upper G j k * d k) * d j = ∑ j, ∑ k, upper G j k * d k * d j :=
    Finset.sum_congr rfl fun j _ => Finset.sum_mul ..
  have e' : ∑ j, ∑ k, upper G j k * d k * d j = ∑ j, ∑ k, upper G k j * d k * d j := by
    rw [Finset.sum_comm]
    exact Finset.sum_congr rfl fun j _ => Finset.sum_congr rfl fun k _ => by ring
  have e2 : ∑ j, ∑ k, upper G j k * d k * d j + ∑ j, ∑ k, upper G k j * d k * d j = 2 * ∑ j, ∑ k, G j k * d k * d j := by
    simp only [← Finset.sum_add_distrib, Finset.mul_sum]
    exact Finset.sum_congr rfl fun j _ => Finset.sum_congr rfl fun k _ => by
      have := upper_add G h j k
      linear_combination (d k * d j) * this
  rw [e]; linarith

/-- The squares of a matrix's image, summed, are the quadratic form of the matrix of its columns' products. -/
theorem sum_sq {T K : ℕ} (x : Fin T → Fin K → ℝ) (d : Fin K → ℝ) :
    ∑ t, (∑ k, x t k * d k) * (∑ k, x t k * d k) = ∑ j, ∑ k, (∑ t, x t j * x t k) * d k * d j := by
  have : ∀ t, (∑ k, x t k * d k) * (∑ k, x t k * d k) = ∑ j, ∑ k, x t j * x t k * d k * d j := fun t => by
    rw [Finset.sum_mul]
    exact Finset.sum_congr rfl fun j _ => by
      rw [Finset.mul_sum]; exact Finset.sum_congr rfl fun k _ => by ring
  simp only [this]
  rw [Finset.sum_comm]
  refine Finset.sum_congr rfl fun j _ => ?_
  rw [Finset.sum_comm]
  refine Finset.sum_congr rfl fun k _ => ?_
  rw [Finset.sum_mul, Finset.sum_mul]

/-- A sum of 2048 terms in four chunks of 64 by 8. -/
theorem sum_chunks {M : Type} [AddCommMonoid M] (f : Fin 2048 → M) :
    ∑ a : Fin 8, ((∑ x : Fin 64, f ⟨x.val * 8 + a.val, by omega⟩) + (∑ x : Fin 64, f ⟨512 + (x.val * 8 + a.val), by omega⟩)
      + (∑ x : Fin 64, f ⟨1024 + (x.val * 8 + a.val), by omega⟩) + (∑ x : Fin 64, f ⟨1536 + (x.val * 8 + a.val), by omega⟩)) = ∑ j, f j := by
  have e1 : ∑ j, f j = ∑ p : Fin 8 × Fin 4 × Fin 64, f ⟨512 * p.2.1.val + (p.2.2.val * 8 + p.1.val), by omega⟩ := by
    symm
    refine Fintype.sum_bijective (fun p : Fin 8 × Fin 4 × Fin 64 => (⟨512 * p.2.1.val + (p.2.2.val * 8 + p.1.val), by omega⟩ : Fin 2048)) ⟨?_, ?_⟩ _ _ (fun _ => rfl)
    · rintro ⟨a, b, c⟩ ⟨a', b', c'⟩ h
      have h := congrArg Fin.val h
      simp only at h
      have := a.isLt; have := a'.isLt; have := b.isLt; have := b'.isLt; have := c.isLt; have := c'.isLt
      refine Prod.ext (Fin.ext ?_) (Prod.ext (Fin.ext ?_) (Fin.ext ?_)) <;> simp only <;> omega
    · intro j
      have := j.isLt
      refine ⟨(⟨j.val % 8, by omega⟩, ⟨j.val / 512, by omega⟩, ⟨j.val % 512 / 8, by omega⟩), Fin.ext ?_⟩
      simp only
      omega
  rw [e1, Fintype.sum_prod_type]
  refine Finset.sum_congr rfl fun a _ => ?_
  rw [Fintype.sum_prod_type, Fin.sum_univ_four]
  have z : (fun x : Fin 64 => f ⟨x.val * 8 + a.val, by omega⟩) = fun x : Fin 64 => f ⟨512 * (0 : Fin 4).val + (x.val * 8 + a.val), by omega⟩ := by
    funext x; congr 1; exact Fin.ext (by simp)
  rw [z]
  rfl

end Cert.Loss

end
-- ==== Proof.Main.GramVal.lean ====
/-
  The matrix of products and its upper triangle, as the kernel's first two calls leave them, when the activations are
  numbers; and a row of losses as a quadratic form.
-/
module

public import proofs.«01_k».proof.Proof.Main.HostVal
public import proofs.«01_k».proof.Proof.Main.UnitVal
public import proofs.«01_k».proof.Proof.Main.LossAlg
public import proofs.«01_k».proof.Proof.Main.Scalars
public import Idealize.ShloMosaic.Lib.WordCmp

@[expose] public section

set_option maxRecDepth 16384

noncomputable section

namespace Cert.KernelIdeal.Main

open Cert.KernelIdeal Cert.KernelIdeal.Gen Idealize.ShloMosaic Idealize.ShloMosaic.TcCoe Idealize.ShloMosaic.StableHlo

/-! ## What the payloads compute -/

theorem k0_pay1_apply (x : Vec Ideal S4096x256 .bf16) (y : Vec Ideal S4096x2048 .bf16) (a : Fin 256) (b : Fin 2048) :
    k0_pay1 x y (ix2 a b) = ∑ t : Fin 4096, x (ix2 t a) * y (ix2 t b) := by
  unfold k0_pay1; pointwise

theorem k1_pay1_apply (x : Vec Ideal S256x256 .f32) (a b : Fin 256) : k1_pay1 x (ix2 a b) = Ideal.ofBits .f32 0x40000000#32 * x (ix2 a b) := by
  unfold k1_pay1; pointwise

theorem k1_pay2_apply (x : Vec Ideal S256x256 .f32) (a b : Fin 256) : k1_pay2 x (ix2 a b) =
    Ideal.ofBits .f32 0x40000000#32 * x (ix2 b a) - Ideal.ofBits .f32 0x40000000#32 * x (ix2 b a) := by
  unfold k1_pay2; pointwise

theorem k1_pay3_apply (x : Vec Ideal S256x256 .f32) (a b : Fin 256) : k1_pay3 x (ix2 a b) = x (ix2 a b) := by
  unfold k1_pay3; pointwise

/-- A diagonal block's entry. -/
theorem k1_pay4_real (x : Vec Ideal S256x256 .f32) (g : Fin 256 → Fin 256 → ℝ) (hg : ∀ a b, x (ix2 a b) = (g a b : EReal)) (a b : Fin 256) : k1_pay4 x (ix2 a b) =
    ((if a.val < b.val then 2 * g a b else if b.val < a.val then 0 else g a b : ℝ) : EReal) := by
  unfold k1_pay4; pointwise
  rw [k1_pay3_apply, k1_pay3_apply, hg, hg, Scal.c2, ← EReal.coe_mul, ← EReal.coe_mul, ← EReal.coe_sub, WordCmp.cmpi_slt_ofNat (by omega) (by omega), WordCmp.cmpi_sgt_ofNat (by omega) (by omega)]
  unfold Scalar.select
  by_cases h1 : a.val < b.val
  · simp [h1]
  · by_cases h2 : b.val < a.val
    · simp [h1, h2]
    · simp [h1, h2]

/-- A remainder is zero when the products are numbers. -/
theorem k1_pay5_real (x : Vec Ideal S256x256 .f32) (g : Fin 256 → Fin 256 → ℝ) (hg : ∀ a b, x (ix2 a b) = (g a b : EReal)) (a : Fin 256) (b : Fin 128) : k1_pay5 x (ix2 a b) = 0 := by
  unfold k1_pay5; pointwise
  refine Finset.sum_eq_zero fun y _ => ?_
  rw [k1_pay3_apply, hg, ← EReal.coe_sub, sub_self]
  unfold Scalar.select
  split <;> rfl

theorem rM_at {α : Type} (x : S2048x2048.Idx → α) (q : Fin 4) (r : Fin 512) (k : Fin 2048) : x ((rM q).emb (ix2 r k)) = x (ix2 (⟨512 * q.val + r.val, by omega⟩ : Fin 2048) k) := by
  refine congrArg x (funext fun a => Fin.ext ?_)
  fin_cases a
  · show 512 * q.val + 1 * r.val = 512 * q.val + r.val; omega
  · show 0 + 1 * k.val = k.val; omega
theorem rE_at {α : Type} (x : S2048x512.Idx → α) (q : Fin 4) (r : Fin 512) (k : Fin 512) : x ((rE q).emb (ix2 r k)) = x (ix2 (⟨512 * q.val + r.val, by omega⟩ : Fin 2048) k) := by
  refine congrArg x (funext fun a => Fin.ext ?_)
  fin_cases a
  · show 512 * q.val + 1 * r.val = 512 * q.val + r.val; omega
  · show 0 + 1 * k.val = k.val; omega
theorem rEall_at {α : Type} (x : S2048x512.Idx → α) (r : Fin 2048) (k : Fin 512) : x (rEall.emb (ix2 r k)) = x (ix2 r k) := by
  refine congrArg x (funext fun a => Fin.ext ?_)
  fin_cases a
  · show 0 + 1 * r.val = r.val; omega
  · show 0 + 1 * k.val = k.val; omega

/-- A chunk's share, in the arrays. -/
theorem chunk_at (M : Vec Ideal S2048x2048 .bf16) (R : Vec Ideal S2048x128 .f32) (D : Vec Ideal S2048x512 .bf16) (hR : ∀ j, R j = 0)
    (q : Fin 4) (a : Fin 8) (l : Fin 512) :
    chunkU (View.ld M (rM q)) (View.ld D rEall) (View.ld R (rR q)) (View.ld D (rE q)) (ix2 a l) =
      ∑ x : Fin 64, (fun j : Fin 2048 => (∑ k : Fin 2048, M (ix2 j k) * D (ix2 k l)) * D (ix2 j l)) ⟨512 * q.val + (x.val * 8 + a.val), by omega⟩ := by
  rw [chunkU_apply _ _ _ _ (fun i j => hR _)]
  refine Finset.sum_congr rfl fun x _ => ?_
  show (∑ k : Fin 2048, M ((rM q).emb (ix2 (⟨x.val * 8 + a.val, by omega⟩ : Fin 512) k)) * D (rEall.emb (ix2 k l))) * D ((rE q).emb (ix2 (⟨x.val * 8 + a.val, by omega⟩ : Fin 512) l)) = _
  rw [rE_at D]
  simp only [rM_at M, rEall_at D]

/-- A row of losses is a quadratic form. -/
theorem lossRow_apply (M : Vec Ideal S2048x2048 .bf16) (R : Vec Ideal S2048x128 .f32) (D : Vec Ideal S2048x512 .bf16) (hR : ∀ j, R j = 0) (l : Fin 512) :
    lossRow M R D (ix3 0 0 l) = (∑ j : Fin 2048, (∑ k : Fin 2048, M (ix2 j k) * D (ix2 k l)) * D (ix2 j l)) * Ideal.ofBits .f32 0x39800000#32 := by
  unfold lossRow rowOf
  rw [rowU_apply]
  refine congrArg (· * Ideal.ofBits .f32 0x39800000#32) ?_
  rw [← Loss.sum_chunks (fun j : Fin 2048 => (∑ k : Fin 2048, M (ix2 j k) * D (ix2 k l)) * D (ix2 j l))]
  refine Finset.sum_congr rfl fun a _ => ?_
  rw [chunk_at M R D hR 0 a l, chunk_at M R D hR 1 a l, chunk_at M R D hR 2 a l, chunk_at M R D hR 3 a l]
  refine congrArg₂ _ (congrArg₂ _ (congrArg₂ _ (Finset.sum_congr rfl fun x _ => congrArg (fun j : Fin 2048 => (∑ k : Fin 2048, M (ix2 j k) * D (ix2 k l)) * D (ix2 j l)) (Fin.ext ?_)) rfl) rfl) rfl
  show 512 * 0 + (x.val * 8 + a.val) = x.val * 8 + a.val
  omega

/-! ## The arrays of the first two calls -/

section
variable (V : (c : Dev nD) → VC Ideal c) (c : Dev nD)

theorem gArr_val (X : Vec Ideal S4096x2048 .bf16) (hX : V c main_v0 = X) (a b : Fin 2048) :
    gArr V c (ix2 a b) = ∑ t : Fin 4096, X (ix2 t a) * X (ix2 t b) := by
  refine (k0_pay1_apply (bX V c ⟨a.val / 256 % 8, by rw [show cfg0.N = 8 from N_0]; omega⟩) (bXX V c) (⟨a.val % 256, Nat.mod_lt _ (by decide)⟩ : Fin 256) b).trans ?_
  refine Finset.sum_congr rfl fun t _ => ?_
  rw [bX_apply, bXX_apply, hX]
  refine congrArg (fun k => X (ix2 t k) * X (ix2 t b)) (Fin.ext ?_)
  show a.val / 256 % 8 * 256 + a.val % 256 = a.val
  omega

variable (g : Fin 2048 → Fin 2048 → ℝ) (hg : ∀ a b, (V c main_v1 : Vec Ideal S2048x2048 .f32) (ix2 a b) = (g a b : EReal))
include hg

theorem mArr_val (a b : Fin 2048) : mArr V c (ix2 a b) = (Loss.upper g a b : EReal) := by
  show mBlk V c (pt1 (a.val / 256 * 8 + b.val / 256)) (ix2 (⟨a.val % 256, Nat.mod_lt _ (by decide)⟩ : Fin 256) (⟨b.val % 256, Nat.mod_lt _ (by decide)⟩ : Fin 256)) = _
  have ht : (pt1 (a.val / 256 * 8 + b.val / 256)).val = a.val / 256 * 8 + b.val / 256 := by
    show (a.val / 256 * 8 + b.val / 256) % 64 = _; omega
  have h8 : (pt1 (a.val / 256 * 8 + b.val / 256)).val / 8 = a.val / 256 := by rw [ht]; omega
  have hm : (pt1 (a.val / 256 * 8 + b.val / 256)).val % 8 = b.val / 256 := by rw [ht]; omega
  have hG : ∀ r k : Fin 256, bG V c (pt1 (a.val / 256 * 8 + b.val / 256)) (ix2 r k) =
      (g (⟨a.val / 256 * 256 + r.val, by omega⟩ : Fin 2048) (⟨b.val / 256 * 256 + k.val, by omega⟩ : Fin 2048) : EReal) := fun r k => by
    rw [bG_apply, hg]
    simp only [h8, hm]
  have hT : ∀ r k : Fin 256, bGT V c (pt1 (a.val / 256 * 8 + b.val / 256)) (ix2 r k) =
      (g (⟨b.val / 256 * 256 + r.val, by omega⟩ : Fin 2048) (⟨a.val / 256 * 256 + k.val, by omega⟩ : Fin 2048) : EReal) := fun r k => by
    rw [bGT_apply, hg]
    simp only [h8, hm]
  have ea : (⟨a.val / 256 * 256 + a.val % 256, by omega⟩ : Fin 2048) = a := Fin.ext (by show a.val / 256 * 256 + a.val % 256 = a.val; omega)
  have eb : (⟨b.val / 256 * 256 + b.val % 256, by omega⟩ : Fin 2048) = b := Fin.ext (by show b.val / 256 * 256 + b.val % 256 = b.val; omega)
  unfold mBlk
  rw [h8, hm]
  by_cases h1 : a.val / 256 < b.val / 256
  · have hu : Loss.upper g a b = 2 * g a b := if_pos (show a.val < b.val by omega)
    rw [if_pos h1, k1_pay1_apply, hG, Scal.c2, ← EReal.coe_mul, hu]
    simp only [ea, eb]
  · rw [if_neg h1]
    by_cases h2 : b.val / 256 < a.val / 256
    · have n1 : ¬ a < b := fun h => by have : a.val < b.val := h; omega
      have n2 : ¬ a = b := fun h => by have := congrArg Fin.val h; omega
      have hu : Loss.upper g a b = 0 := (if_neg n1).trans (if_neg n2)
      rw [if_pos h2, k1_pay2_apply, hT, Scal.c2, ← EReal.coe_mul, ← EReal.coe_sub, sub_self, hu]
    · rw [if_neg h2, k1_pay4_real _ _ hG, Loss.upper]
      simp only [ea, eb]
      refine congrArg _ ?_
      by_cases h3 : a.val < b.val
      · rw [if_pos (show a.val % 256 < b.val % 256 by omega), if_pos (show a < b from h3)]
      · rw [if_neg (show ¬ a.val % 256 < b.val % 256 by omega), if_neg (show ¬ a < b from h3)]
        by_cases h4 : a = b
        · subst h4
          rw [if_neg (lt_irrefl _), if_pos rfl]
        · have : a.val ≠ b.val := fun h => h4 (Fin.ext h)
          rw [if_pos (show b.val % 256 < a.val % 256 by omega), if_neg h4]

theorem rArr_val (j : S2048x128.Idx) : rArr V c j = 0 := by
  have hG : ∀ r k : Fin 256, bG V c (pt1 ((j 0).val / 256 * 9)) (ix2 r k) = (g _ _ : EReal) := fun r k => by
    rw [bG_apply, hg]
  exact k1_pay5_real _ (fun r k => g _ _) hG _ _
end

end Cert.KernelIdeal.Main

end
-- ==== Proof.Main.Finite.lean ====
/-
  The reference's stages are numbers when the activations and the weights are, and its losses then are mean squares.
-/
module

public import proofs.«01_k».proof.Proof.Main.RefVal
public import proofs.«01_k».proof.Proof.Main.LossAlg
public import proofs.«01_k».proof.Proof.Main.Scalars

@[expose] public section

set_option maxRecDepth 16384

noncomputable section

namespace Cert.RefVal

open Cert.ReferenceIdeal Cert.ReferenceIdeal.Gen Idealize.ShloMosaic

theorem fold_max_mem {ι : Type} [Fintype ι] [Nonempty ι] (f : ι → EReal) : ∃ i, Finset.fold max (⊥ : EReal) f Finset.univ = f i := by
  obtain ⟨i, -, h⟩ := Finset.exists_mem_eq_sup Finset.univ Finset.univ_nonempty f
  exact ⟨i, h⟩
theorem fold_min_mem {ι : Type} [Fintype ι] [Nonempty ι] (f : ι → EReal) : ∃ i, Finset.fold min (⊤ : EReal) f Finset.univ = f i := by
  obtain ⟨i, -, h⟩ := Finset.exists_mem_eq_inf Finset.univ Finset.univ_nonempty f
  exact ⟨i, h⟩

theorem coe_max (a b : ℝ) : ((max a b : ℝ) : EReal) = max (a : EReal) (b : EReal) := EReal.coe_strictMono.monotone.map_max
theorem abs_coe (r : ℝ) : max (r : EReal) (-(r : EReal)) = ((|r| : ℝ) : EReal) := by
  rw [← EReal.coe_neg, ← coe_max]; rfl

section
variable (x : Vec Ideal S4x1024x2048 .bf16) (w : Vec Ideal S8192x2048 .bf16)
  (hx : ∀ j, ∃ r : ℝ, x j = (r : EReal)) (hw : ∀ j, ∃ r : ℝ, w j = (r : EReal))

include hx in
theorem rX_real (t : Fin 4096) (k : Fin 2048) : ∃ r : ℝ, rX x (ix2 t k) = (r : EReal) := by
  rw [rX_apply]; exact hx _

include hx in
theorem rMean_real (k : Fin 2048) : ∃ r : ℝ, rMean (rX x) (ix1 k) = (r : EReal) := by
  choose f hf using rX_real x hx
  rw [rMean_apply]
  simp only [hf, abs_coe]
  rw [Loss.coe_sum, Scal.c4096, Ideal.div_coe (by norm_num), ← EReal.coe_mul]
  exact ⟨_, rfl⟩

include hx in
theorem rPow_real (i : Fin 20) (k : Fin 2048) : ∃ r : ℝ, 0 < r ∧ rPow (rMean (rX x)) (ix2 i k) = (r : EReal) := by
  obtain ⟨a, ha⟩ := rMean_real x hx k
  obtain ⟨e, he, hl⟩ := Scal.cLow
  rw [rPow_apply, ha, hl, Scal.c20, Ideal.div_coe (by norm_num), ← EReal.coe_mul, Ideal.pow_coe_coe, ← coe_max]
  exact ⟨_, lt_max_of_lt_right he, rfl⟩

include hx in
theorem sOf_real (i : Fin 20) (k : Fin 2048) : ∃ r : ℝ, 0 < r ∧ sOf x (ix2 i k) = (r : EReal) := by
  obtain ⟨a, ha0, ha⟩ := rPow_real x hx i k
  unfold sOf
  rw [rS_apply, Scal.cNegInf, Scal.cInf]
  obtain ⟨p, hp⟩ := fold_max_mem (fun k : Fin 2048 => rPow (rMean (rX x)) (ix2 i k))
  obtain ⟨q, hq⟩ := fold_min_mem (fun k : Fin 2048 => rPow (rMean (rX x)) (ix2 i k))
  rw [hp, hq]
  obtain ⟨b, hb0, hb⟩ := rPow_real x hx i p
  obtain ⟨d, hd0, hd⟩ := rPow_real x hx i q
  have hs : 0 < Real.sqrt (b * d) := Real.sqrt_pos.mpr (mul_pos hb0 hd0)
  rw [ha, hb, hd, ← EReal.coe_mul, Ideal.sqrt_coe, if_neg (not_lt.mpr (mul_pos hb0 hd0).le), Ideal.div_coe hs.ne', ← EReal.coe_mul]
  exact ⟨_, mul_pos ha0 (one_div_pos.mpr hs), rfl⟩

include hx hw in
theorem scOf_real (i : Fin 20) (o : Fin 8192) (g : Fin 16) : ∃ r : ℝ, scOf x w (ix3 i o g) = (r : EReal) := by
  unfold scOf
  rw [rSc_apply, rMax_apply, Scal.cNegInf, Scal.c7]
  obtain ⟨p, hp⟩ := fold_max_mem (fun l : Fin 128 => max (vOf x w (ix4 i o g l)) (-(vOf x w (ix4 i o g l))))
  obtain ⟨a, ha⟩ := hw (ix2 o (kIx g p))
  obtain ⟨s, -, hs⟩ := sOf_real x hx i (kIx g p)
  rw [hp]
  unfold vOf
  rw [rV_apply, ha, hs, ← EReal.coe_mul, abs_coe]
  split
  · exact ⟨1, rfl⟩
  · rw [Ideal.div_coe (by norm_num), ← EReal.coe_mul]
    exact ⟨_, rfl⟩

theorem qOf_real (i : Fin 20) (o : Fin 8192) (g : Fin 16) (l : Fin 128) : ∃ r : ℝ, qOf x w (ix4 i o g l) = (r : EReal) := by
  unfold qOf
  rw [rQ_apply, Scal.c7, Scal.cm7]
  obtain ⟨n, -, -, h, -⟩ := Scal.clip_cases (Ideal.div (vOf x w (ix4 i o g l)) (scOf x w (ix3 i o g)))
  exact ⟨_, h⟩

include hx hw in
theorem wqOf_real (i : Fin 20) (o : Fin 8192) (k : Fin 2048) : ∃ r : ℝ, wqOf x w (ix3 i o k) = (r : EReal) := by
  obtain ⟨q, hq⟩ := qOf_real x w i o (gIx k) (lIx k)
  obtain ⟨c, hc⟩ := scOf_real x w hx hw i o (gIx k)
  obtain ⟨s, hs0, hs⟩ := sOf_real x hx i k
  unfold wqOf
  rw [rWq_apply, hq, hc, hs, Ideal.div_coe hs0.ne', one_mul, ← EReal.coe_mul, ← EReal.coe_mul]
  exact ⟨_, rfl⟩

/-- The reference's loss, in numbers. -/
theorem lossOf_real (X : Fin 4096 → Fin 2048 → ℝ) (hX : ∀ t k, rX x (ix2 t k) = (X t k : EReal)) (i : Fin 20) (o : Fin 8192)
    (W : Fin 2048 → ℝ) (hW : ∀ k, w (ix2 o k) = (W k : EReal)) (Q : Fin 2048 → ℝ) (hQ : ∀ k, wqOf x w (ix3 i o k) = (Q k : EReal)) :
    lossOf x w (ix2 i o) = (((∑ t, (∑ k, X t k * (W k - Q k)) * (∑ k, X t k * (W k - Q k))) * (1 / 4096) : ℝ) : EReal) := by
  have hd : ∀ t : Fin 4096, rDiff (rX x) w (wqOf x w) (ix3 i t o) = ((∑ k, X t k * (W k - Q k) : ℝ) : EReal) := fun t => by
    rw [rDiff_apply]
    simp only [hX, hW, hQ, ← EReal.coe_mul]
    rw [Loss.coe_sum, Loss.coe_sum, ← EReal.coe_sub, ← Finset.sum_sub_distrib]
    refine congrArg _ (Finset.sum_congr rfl fun k _ => ?_)
    ring
  unfold lossOf
  rw [rLoss_apply, Scal.c4096, Ideal.div_coe (by norm_num)]
  simp only [hd, ← EReal.coe_mul]
  rw [Loss.coe_sum, ← EReal.coe_mul]
end

end Cert.RefVal

end
-- ==== Proof.Main.LossEq.lean ====
/-
  The losses that the kernel ends with are the reference's, when the activations and the weights are numbers.
-/
module

public import proofs.«01_k».proof.Proof.Main.OutVal
public import proofs.«01_k».proof.Proof.Main.GramVal
public import proofs.«01_k».proof.Proof.Main.Finite

@[expose] public section

set_option maxRecDepth 16384

noncomputable section

namespace Cert.KernelIdeal.Main

open Cert.KernelIdeal Cert.KernelIdeal.Gen Idealize.ShloMosaic Idealize.ShloMosaic.TcCoe Idealize.ShloMosaic.StableHlo

section
variable (m : (ℓ : Loc nD τ sig) → Buf (Elt Ideal) ℓ) (c : Dev nD)

/-- The losses. -/
theorem losses_eq (hx : ∀ j, ∃ r : ℝ, argX m c j = (r : EReal)) (hw : ∀ j, ∃ r : ℝ, argW m c j = (r : EReal)) :
    hLo (lossArr (vc (A6 m)) c) = RefVal.lossOf (argX m c) (argW m c) := by
  choose X hX using RefVal.rX_real (argX m c) hx
  have hg : ∀ a b, (vc (A2 m) c main_v1 : Vec Ideal S2048x2048 .f32) (ix2 a b) = ((∑ t, X t a * X t b : ℝ) : EReal) := fun a b => by
    show (A2 m c (Proc.devRef .tc main_v1) : Vec Ideal S2048x2048 .f32) (ix2 a b) = _
    rw [A2_v1, gArr_val _ _ _ (A1_v0 m c)]
    simp only [hX, ← EReal.coe_mul]
    exact Loss.coe_sum _ _
  funext j
  obtain ⟨i, o, rfl⟩ : ∃ (i : Fin 20) (o : Fin 8192), j = ix2 i o := ⟨j 0, j 1, funext fun a => by fin_cases a <;> rfl⟩
  choose W hW using fun k : Fin 2048 => hw (ix2 o k)
  choose Q hQ using RefVal.wqOf_real (argX m c) (argW m c) hx hw i o
  rw [RefVal.lossOf_real (argX m c) (argW m c) X hX i o W hW Q hQ, hLo_apply]
  show lossRow (bM (vc (A6 m)) c) (bR (vc (A6 m)) c) (errAt (vc (A6 m)) c (1 + (o.val / 512 * 20 + i.val))) (ix3 0 0 (⟨o.val % 4 * 128 + o.val / 4 % 128, by omega⟩ : Fin 512)) = _
  have hM : ∀ a b : Fin 2048, bM (vc (A6 m)) c (ix2 a b) = ((Loss.upper (fun a b => ∑ t, X t a * X t b) a b : ℝ) : EReal) := fun a b => by
    rw [bM_apply]
    show (A6 m c (Proc.devRef .tc main_v2_0) : Vec Ideal S2048x2048 .bf16) (ix2 a b) = _
    rw [A6_v2_0]
    exact mArr_val _ _ _ hg a b
  have hR : ∀ j, bR (vc (A6 m)) c j = 0 := fun j => by
    obtain ⟨a, b, rfl⟩ : ∃ (a : Fin 2048) (b : Fin 128), j = ix2 a b := ⟨j 0, j 1, funext fun a => by fin_cases a <;> rfl⟩
    rw [bR_apply]
    show (A6 m c (Proc.devRef .tc main_v2_1) : Vec Ideal S2048x128 .f32) (ix2 a b) = _
    rw [A6_v2_1]
    exact rArr_val _ _ _ hg _
  rw [lossRow_apply _ _ _ hR]
  have hD : ∀ k : Fin 2048, errAt (vc (A6 m)) c (1 + (o.val / 512 * 20 + i.val)) (ix2 k (⟨o.val % 4 * 128 + o.val / 4 % 128, by omega⟩ : Fin 512)) = ((W k - Q k : ℝ) : EReal) := fun k => by
    rw [err_eq, hW, hQ, EReal.coe_sub]
  simp only [hD, hM, ← EReal.coe_mul, Loss.coe_sum]
  rw [Scal.cInv4096, ← EReal.coe_mul, Loss.sum_sq, Loss.quad_upper (fun a b => ∑ t, X t a * X t b) (fun a b => Finset.sum_congr rfl fun t _ => mul_comm _ _)]
end

end Cert.KernelIdeal.Main

end
-- ==== Proof.Main.Algebra.lean ====
/-
  The value claim: the idealized kernel and the idealized reference end with the same losses, codes and scales, when
  every entry of the arguments is finite.
-/
module

public import proofs.«01_k».proof.Defs
public import proofs.«01_k».proof.Proof.Gen.Pre_finite
public import proofs.«01_k».proof.Proof.Main.Frames
public import proofs.«01_k».proof.Proof.Main.LossEq
public import Idealize.ShloMosaic.Lib.ReduceAll

@[expose] public section

set_option maxRecDepth 16384

noncomputable section

namespace Cert.Proof

open Idealize.ShloMosaic Idealize.SL.Sem

/-- An extended real whose magnitude is below infinity is a number. -/
theorem real_of_lt (x : EReal) (h : Ideal.cmp .olt (max x (-x)) (Ideal.ofBits .f32 0x7F800000#32) = 1#1) : ∃ r : ℝ, x = (r : EReal) := by
  rw [Scal.cInf] at h
  induction x using EReal.rec with
  | bot => simp [Ideal.cmp] at h
  | top => simp [Ideal.cmp] at h
  | coe r => exact ⟨r, rfl⟩

section
attribute [local instance] Cert.Pre_finite.Gen.facts
open Cert.Pre_finite

instance : Subsingleton S_.Idx := ⟨fun a b => funext fun i => i.elim0⟩

/-- The precondition says that every entry of both arguments is a number. -/
theorem finite_real (x : FVec Ideal S4x1024x2048 .bf16) (w : FVec Ideal S8192x2048 .bf16) (h : fn (F := Ideal) x w = fun _ => 1#1) :
    (∀ j, ∃ r : ℝ, x j = (r : EReal)) ∧ (∀ j, ∃ r : ℝ, w j = (r : EReal)) := by
  have h0 := congrFun h (Shape.Idx.first Facts.h_S_)
  unfold fn at h0
  dsimp only at h0
  obtain ⟨h1, h2⟩ := IntOp.andi_eq_one.mp h0
  refine ⟨fun j => ?_, fun j => ?_⟩
  · have := Host.reduce_andi_all _ _ _ _ _ h1 j
    exact real_of_lt _ this
  · have := Host.reduce_andi_all _ _ _ _ _ h2 j
    exact real_of_lt _ this
end

theorem frame_ki_finite : Cert.quiescent_KernelIdeal_pre_finite (hKernelIdeal := Cert.KernelIdeal.Gen.facts) (hPre_finite := Cert.Pre_finite.Gen.facts) :=
  fun m g _ => frame_ki m g trivial

theorem frame_ri_finite : Cert.quiescent_ReferenceIdeal_pre_finite (hReferenceIdeal := Cert.ReferenceIdeal.Gen.facts) (hPre_finite := Cert.Pre_finite.Gen.facts) :=
  fun m g _ => frame_ri m g trivial

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => RefVal.lossOf (KernelIdeal.Main.argX m c) (KernelIdeal.Main.argW m c), fun c => RefVal.codeOf (KernelIdeal.Main.argX m c) (KernelIdeal.Main.argW m c),
    fun c => RefVal.scOf (KernelIdeal.Main.argX m c) (KernelIdeal.Main.argW m c), ?_, ?_⟩
  · refine (θ_run _ _ _).mono (fun r h c => ?_) (Cert.KernelIdeal.Main.run_main (F := Ideal) m g)
    obtain ⟨hx, hw⟩ := finite_real _ _ (hp c)
    have e : ∀ b : Ref Cert.KernelIdeal.sig .tc, Proc.devRef .tc b ∈ Pipeline.ucRefs Cert.KernelIdeal.τ Cert.KernelIdeal.sig →
        r.2.mem ((c.tc : Thread Cert.KernelIdeal.nD Cert.KernelIdeal.τ).loc b) = KernelIdeal.Main.A8 m c (Proc.devRef .tc b) := fun b hb => h.1 c (Proc.devRef .tc b) hb
    refine ⟨?_, ?_, ?_, ?_, ?_⟩
    · exact (e _ (Finset.mem_filter.mpr ⟨StableHlo.devRef_mem_tcRefs _, by decide⟩)).trans ((KernelIdeal.Main.A8_v26 m c).trans (KernelIdeal.Main.losses_eq m c hx hw))
    · exact (e _ (Finset.mem_filter.mpr ⟨StableHlo.devRef_mem_tcRefs _, by decide⟩)).trans ((KernelIdeal.Main.A8_v21_1 m c).trans (KernelIdeal.Main.codes_eq m c))
    · exact (e _ (Finset.mem_filter.mpr ⟨StableHlo.devRef_mem_tcRefs _, by decide⟩)).trans ((KernelIdeal.Main.A8_v29 m c).trans (KernelIdeal.Main.scales_eq m c))
    · exact (e _ (Finset.mem_filter.mpr ⟨StableHlo.devRef_mem_tcRefs _, by decide⟩)).trans
        (KernelIdeal.Main.A8_arg m Cert.KernelIdeal.main_arg0 (by decide) (by decide) (by decide) (by decide) (by decide) (by decide) (by decide) (by decide) (by decide) c)
    · exact (e _ (Finset.mem_filter.mpr ⟨StableHlo.devRef_mem_tcRefs _, by decide⟩)).trans
        (KernelIdeal.Main.A8_arg m Cert.KernelIdeal.main_arg1 (by decide) (by decide) (by decide) (by decide) (by decide) (by decide) (by decide) (by decide) (by decide) c)
  · refine (θ_run _ _ _).mono (fun r h c => ?_) (Cert.ReferenceIdeal.Value.run (F := Ideal) m' g')
    obtain ⟨h0, h1, h2, h3, h4⟩ := h c
    obtain ⟨a0, a1⟩ := ha c
    refine ⟨?_, ?_, ?_, h3, h4⟩
    · exact h0.trans ((RefVal.res0_eq m' c).trans (congrArg₂ RefVal.lossOf a0 a1))
    · exact h1.trans ((RefVal.res1_eq m' c).trans (congrArg₂ RefVal.codeOf a0 a1))
    · exact h2.trans ((RefVal.res2_eq m' c).trans (congrArg₂ RefVal.scOf a0 a1))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Main.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  frame_k, frame_ki, frame_ki_finite, frame_ri, frame_ri_finite, trivial, algebraic⟩

end Cert.Proof

end
